-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_or_lesion [hPre_zero_or_lesion : Cert.Pre_zero_or_lesion.Facts] (m : (ℓ : Loc Cert.KernelIdeal.nD Cert.KernelIdeal.τ Cert.KernelIdeal.sig) → Buf (Elt Ideal) ℓ) : Prop :=
  ∀ c : Dev Cert.KernelIdeal.nD,
    (Cert.Pre_zero_or_lesion.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_or_lesion [hPre_zero_or_lesion : Cert.Pre_zero_or_lesion.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_or_lesion.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_zero_or_lesion [hKernelIdeal : Cert.KernelIdeal.Facts] [hPre_zero_or_lesion : Cert.Pre_zero_or_lesion.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_or_lesion m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_zero_or_lesion [hReferenceIdeal : Cert.ReferenceIdeal.Facts] [hPre_zero_or_lesion : Cert.Pre_zero_or_lesion.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_or_lesion m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_zero_or_lesion [hKernelIdeal : Cert.KernelIdeal.Facts] [hReferenceIdeal : Cert.ReferenceIdeal.Facts] [hPre_zero_or_lesion : Cert.Pre_zero_or_lesion.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_or_lesion m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_on_smoothed_and_lesions [hKernelIdeal : Cert.KernelIdeal.Facts] [hReferenceIdeal : Cert.ReferenceIdeal.Facts] [hOn_smoothed_and_lesions : Cert.On_smoothed_and_lesions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![32, 1, 768, 768]⟩ : Shape).Idx, (Cert.On_smoothed_and_lesions.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v2) i = v0 c i)
          ∧ (∀ i : (⟨3, ![32, 768, 768]⟩ : Shape).Idx, (Cert.On_smoothed_and_lesions.fn (F := Ideal) (m ((c.tc : Thread Cert.KernelIdeal.nD Cert.KernelIdeal.τ).loc Cert.KernelIdeal.main_arg0))).2 i = 1#1 → r.2.mem ((c.tc : Thread Cert.KernelIdeal.nD Cert.KernelIdeal.τ).loc Cert.KernelIdeal.main_v1_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![32, 1, 768, 768]⟩ : Shape).Idx, (Cert.On_smoothed_and_lesions.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v5) i = v0 c i)
          ∧ (∀ i : (⟨3, ![32, 768, 768]⟩ : Shape).Idx, (Cert.On_smoothed_and_lesions.fn (F := Ideal) (m ((c.tc : Thread Cert.KernelIdeal.nD Cert.KernelIdeal.τ).loc Cert.KernelIdeal.main_arg0))).2 i = 1#1 → r.2.mem ((c.tc : Thread Cert.ReferenceIdeal.nD Cert.ReferenceIdeal.τ).loc Cert.ReferenceIdeal.main_v17) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_zero_or_lesion : Cert.Pre_zero_or_lesion.Facts) (hOn_smoothed_and_lesions : Cert.On_smoothed_and_lesions.Facts),
    quiescent_Kernel (hKernel := hKernel)
    ∧ quiescent_KernelIdeal (hKernelIdeal := hKernelIdeal)
    ∧ quiescent_KernelIdeal_pre_zero_or_lesion (hKernelIdeal := hKernelIdeal) (hPre_zero_or_lesion := hPre_zero_or_lesion)
    ∧ quiescent_ReferenceIdeal (hReferenceIdeal := hReferenceIdeal)
    ∧ quiescent_ReferenceIdeal_pre_zero_or_lesion (hReferenceIdeal := hReferenceIdeal) (hPre_zero_or_lesion := hPre_zero_or_lesion)
    ∧ preserves_Kernel_KernelIdeal
    ∧ algebraic_KernelIdeal_ReferenceIdeal_pre_zero_or_lesion (hKernelIdeal := hKernelIdeal) (hReferenceIdeal := hReferenceIdeal) (hPre_zero_or_lesion := hPre_zero_or_lesion)
    ∧ algebraic_KernelIdeal_ReferenceIdeal_on_smoothed_and_lesions (hKernelIdeal := hKernelIdeal) (hReferenceIdeal := hReferenceIdeal) (hOn_smoothed_and_lesions := hOn_smoothed_and_lesions)
-- ==== On_smoothed_and_lesions.lean ====
abbrev S32x1x768x768 : Shape := ⟨4, ![32, 1, 768, 768]⟩
abbrev S_ : Shape := ⟨0, ![]⟩
abbrev S32x768x768 : Shape := ⟨3, ![32, 768, 768]⟩

class Facts : Prop where
  bcast_S_S32x1x768x768 : S_.BroadcastsInDim S32x1x768x768 (![] : Fin 0 → Fin S32x1x768x768.rank)
  shapeCasts_S32x1x768x768_S32x768x768 : S32x1x768x768.ShapeCasts S32x768x768
  bcast_S_S32x768x768 : S_.BroadcastsInDim S32x768x768 (![] : Fin 0 → Fin S32x768x768.rank)

variable [Facts]

def fn {F : FTy → Type} [FloatOps F] (main_arg0 : FVec F S32x1x768x768 .f32) : IVec S32x1x768x768 1 × IVec S32x768x768 1 :=
  let main_c : IVec S_ 1 := constantI S_ 1 1#1
  let main_v0 : IVec S32x1x768x768 1 := broadcastInDim S32x1x768x768 ![] bcast_S_S32x1x768x768 main_c
  let main_v1 : FVec F S32x768x768 .f32 := shapeCast S32x768x768 main_arg0 shapeCasts_S32x1x768x768_S32x768x768
  let main_cst : FVec F S_ .f32 := constant S_ .f32 0x3F000000#32
  let main_v2 : FVec F S32x768x768 .f32 := broadcastInDim S32x768x768 ![] bcast_S_S32x768x768 main_cst
  let main_v3 : IVec S32x768x768 1 := cmpf .ogt main_v1 main_v2
  (main_v0, main_v3)
-- ==== Pre_zero_or_lesion.lean ====
abbrev S32x1x768x768 : Shape := ⟨4, ![32, 1, 768, 768]⟩
abbrev S_ : Shape := ⟨0, ![]⟩

class Facts : Prop where
  bcast_S_S32x1x768x768 : S_.BroadcastsInDim S32x1x768x768 (![] : Fin 0 → Fin S32x1x768x768.rank)

variable [Facts]

def fn {F : FTy → Type} [FloatOps F] (main_arg0 : FVec F S32x1x768x768 .f32) : IVec S32x1x768x768 1 :=
  let main_cst : FVec F S_ .f32 := constant S_ .f32 0x00000000#32
  let main_v0 : FVec F S32x1x768x768 .f32 := broadcastInDim S32x1x768x768 ![] bcast_S_S32x1x768x768 main_cst
  let main_v1 : IVec S32x1x768x768 1 := cmpf .oeq main_arg0 main_v0
  let main_cst_0 : FVec F S_ .f32 := constant S_ .f32 0x3F000000#32
  let main_v2 : FVec F S32x1x768x768 .f32 := broadcastInDim S32x1x768x768 ![] bcast_S_S32x1x768x768 main_cst_0
  let main_v3 : IVec S32x1x768x768 1 := cmpf .ogt main_arg0 main_v2
  let main_v4 : IVec S32x1x768x768 1 := ori main_v1 main_v3
  main_v4
-- ==== Kernel.lean ====
abbrev S32x1x768x768 : Shape := ⟨4, ![32, 1, 768, 768]⟩
abbrev S32x768x768 : Shape := ⟨3, ![32, 768, 768]⟩
abbrev S2x768x768 : Shape := ⟨3, ![2, 768, 768]⟩
abbrev S768x768 : Shape := ⟨2, ![768, 768]⟩
abbrev S1x768x768 : Shape := ⟨3, ![1, 768, 768]⟩
abbrev S256x384 : Shape := ⟨2, ![256, 384]⟩
abbrev S384x768 : Shape := ⟨2, ![384, 768]⟩
abbrev S256x768 : Shape := ⟨2, ![256, 768]⟩
abbrev S256x512 : Shape := ⟨2, ![256, 512]⟩
abbrev S512x768 : Shape := ⟨2, ![512, 768]⟩
abbrev S768x384 : Shape := ⟨2, ![768, 384]⟩
abbrev S384x256 : Shape := ⟨2, ![384, 256]⟩
abbrev S768x256 : Shape := ⟨2, ![768, 256]⟩
abbrev S1x768x256 : Shape := ⟨3, ![1, 768, 256]⟩
abbrev S768x512 : Shape := ⟨2, ![768, 512]⟩
abbrev S512x256 : Shape := ⟨2, ![512, 256]⟩

abbrev nBuf : Space → Nat
  | .hbm => 5
  | .vmem => 9
  | .smem => 0
  | _ => 0

abbrev bufTy : (tb : Table) → Fin (tcTables nBuf tb) → BufTy
  | .hbm, ⟨0, _⟩ => ⟨S32x1x768x768, .f32⟩
  | .hbm, ⟨1, _⟩ => ⟨S32x768x768, .f32⟩
  | .hbm, ⟨2, _⟩ => ⟨S32x768x768, .f32⟩
  | .hbm, ⟨3, _⟩ => ⟨S32x768x768, .i32⟩
  | .hbm, ⟨4, _⟩ => ⟨S32x1x768x768, .f32⟩
  | .local _ .vmem, ⟨0, _⟩ => ⟨S2x768x768, .f32⟩
  | .local _ .vmem, ⟨1, _⟩ => ⟨S2x768x768, .f32⟩
  | .local _ .vmem, ⟨2, _⟩ => ⟨S2x768x768, .f32⟩
  | .local _ .vmem, ⟨3, _⟩ => ⟨S2x768x768, .f32⟩
  | .local _ .vmem, ⟨4, _⟩ => ⟨S2x768x768, .i32⟩
  | .local _ .vmem, ⟨5, _⟩ => ⟨S2x768x768, .i32⟩
  | .local _ .vmem, ⟨6, _⟩ => ⟨S768x768, .bf16⟩
  | .local _ .vmem, ⟨7, _⟩ => ⟨S768x768, .fp8e4m3⟩
  | .local _ .vmem, ⟨8, _⟩ => ⟨S768x768, .fp8e4m3⟩
  | _, _ => ⟨S32x1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x768x768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x1x768x768 : Shape := ⟨4, ![32, 1, 768, 768]⟩
abbrev S_ : Shape := ⟨0, ![]⟩
abbrev S32x768x768 : Shape := ⟨3, ![32, 768, 768]⟩

abbrev nBuf : Space → Nat
  | .hbm => 32
  | .vmem => 0
  | .smem => 0
  | _ => 0

abbrev bufTy : (tb : Table) → Fin (tcTables nBuf tb) → BufTy
  | .hbm, ⟨0, _⟩ => ⟨S32x1x768x768, .f32⟩
  | .hbm, ⟨1, _⟩ => ⟨S_, .f32⟩
  | .hbm, ⟨2, _⟩ => ⟨S_, .f32⟩
  | .hbm, ⟨3, _⟩ => ⟨S32x1x768x768, .f32⟩
  | .hbm, ⟨4, _⟩ => ⟨S_, .f32⟩
  | .hbm, ⟨5, _⟩ => ⟨S_, .f32⟩
  | .hbm, ⟨6, _⟩ => ⟨S32x1x768x768, .f32⟩
  | .hbm, ⟨7, _⟩ => ⟨S_, .f32⟩
  | .hbm, ⟨8, _⟩ => ⟨S32x1x768x768, .f32⟩
  | .hbm, ⟨9, _⟩ => ⟨S32x1x768x768, .f32⟩
  | .hbm, ⟨10, _⟩ => ⟨S_, .f32⟩
  | .hbm, ⟨11, _⟩ => ⟨S_, .f32⟩
  | .hbm, ⟨12, _⟩ => ⟨S32x1x768x768, .f32⟩
  | .hbm, ⟨13, _⟩ => ⟨S_, .f32⟩
  | .hbm, ⟨14, _⟩ => ⟨S_, .f32⟩
  | .hbm, ⟨15, _⟩ => ⟨S32x1x768x768, .f32⟩
  | .hbm, ⟨16, _⟩ => ⟨S_, .f32⟩
  | .hbm, ⟨17, _⟩ => ⟨S32x1x768x768, .f32⟩
  | .hbm, ⟨18, _⟩ => ⟨S32x1x768x768, .i1⟩
  | .hbm, ⟨19, _⟩ => ⟨S_, .f32⟩
  | .hbm, ⟨20, _⟩ => ⟨S32x1x768x768, .f32⟩
  | .hbm, ⟨21, _⟩ => ⟨S32x1x768x768, .i1⟩
  | .hbm, ⟨22, _⟩ => ⟨S_, .i32⟩
  | .hbm, ⟨23, _⟩ => ⟨S_, .i32⟩
  | .hbm, ⟨24, _⟩ => ⟨S32x1x768x768, .i32⟩
  | .hbm, ⟨25, _⟩ => ⟨S32x1x768x768, .i32⟩
  | .hbm, ⟨26, _⟩ => ⟨S32x1x768x768, .i32⟩
  | .hbm, ⟨27, _⟩ => ⟨S_, .i32⟩
  | .hbm, ⟨28, _⟩ => ⟨S32x1x768x768, .i32⟩
  | .hbm, ⟨29, _⟩ => ⟨S32x1x768x768, .i32⟩
  | .hbm, ⟨30, _⟩ => ⟨S32x1x768x768, .i32⟩
  | .hbm, ⟨31, _⟩ => ⟨S32x768x768, .i32⟩
  | _, _ => ⟨S32x1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_c_6 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c_7 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Proof.Band.lean ====
/- Sums over the window of half-width `w` around a position of an axis of 768 entries: a product with a banded 0/1 matrix is
   such a sum, a span of the axis that holds the whole window is enough for it, a padded window is the same sum, and a sum of
   entries that are zero or above one half is above one half exactly when an entry is. -/
module

public import Mathlib.Data.EReal.Operations
public import Mathlib.Algebra.BigOperators.Group.Finset.Basic
public import Mathlib.Algebra.Order.BigOperators.Group.Finset
public import Mathlib.Algebra.BigOperators.Fin

@[expose] public section

noncomputable section

namespace Cert.Proof

/-- Positions `i` and `j` are at most `w` apart. -/
abbrev Near (w : ℕ) (i j : Fin 768) : Prop := i.val ≤ j.val + w ∧ j.val ≤ i.val + w

/-- An entry of the 0/1 band matrix of half-width `w`. -/
def band (w : ℕ) (i j : Fin 768) : EReal := if Near w i j then 1 else 0

/-- The sum of `g` over the window of half-width `w` around `r`, cut off at the ends of the axis. -/
def box (w : ℕ) (r : Fin 768) (g : Fin 768 → EReal) : EReal := ∑ i, if Near w r i then g i else 0

theorem near_symm {w : ℕ} {i j : Fin 768} : Near w i j ↔ Near w j i := And.comm

/-- A row of the band matrix against a column. -/
theorem band_mul (w : ℕ) (r i : Fin 768) (x : EReal) : band w r i * x = if Near w r i then x else 0 := by
  unfold band
  split <;> simp

/-- A row against a column of the band matrix. -/
theorem mul_band (w : ℕ) (c k : Fin 768) (x : EReal) : x * band w k c = if Near w c k then x else 0 := by
  unfold band
  by_cases h : Near w c k
  · rw [if_pos h, if_pos (near_symm.1 h)]; simp
  · rw [if_neg h, if_neg (mt near_symm.1 h)]; simp

/-- A span of `n` positions from `off` carries the whole sum of a function that vanishes off it. -/
theorem sum_span (n off : ℕ) (hn : off + n ≤ 768) (f : Fin 768 → EReal)
    (hz : ∀ i : Fin 768, i.val < off ∨ off + n ≤ i.val → f i = 0) (f' : Fin n → EReal)
    (hf : ∀ k : Fin n, f' k = f ⟨off + k.val, by omega⟩) : ∑ k, f' k = ∑ i, f i := by
  let e : Fin n ↪ Fin 768 := ⟨fun k => ⟨off + k.val, by omega⟩, fun a b h => by
    have := congrArg Fin.val h
    simp only [Nat.add_left_cancel_iff] at this
    exact Fin.ext this⟩
  rw [Finset.sum_congr rfl fun k _ => hf k]
  refine (Finset.sum_map Finset.univ e f).symm.trans ?_
  refine Finset.sum_subset (Finset.subset_univ _) fun i _ hi => hz i ?_
  by_contra h
  refine hi (Finset.mem_map.2 ⟨⟨i.val - off, by omega⟩, Finset.mem_univ _, Fin.ext ?_⟩)
  show off + (i.val - off) = i.val
  omega

/-- The window's sum from a span that holds the window. -/
theorem box_of_span (w : ℕ) (r : Fin 768) (g : Fin 768 → EReal) (n off : ℕ) (hn : off + n ≤ 768)
    (hr : ∀ i : Fin 768, Near w r i → off ≤ i.val ∧ i.val < off + n) (f' : Fin n → EReal)
    (hf : ∀ k : Fin n, f' k = if Near w r ⟨off + k.val, by omega⟩ then g ⟨off + k.val, by omega⟩ else 0) : ∑ k, f' k = box w r g :=
  sum_span n off hn _ (fun i hi => if_neg fun h => by have := hr i h; omega) f' hf

/-- The window's sum taken over its offsets, a position off the axis counting zero. -/
theorem box_of_offsets (w : ℕ) (r : Fin 768) (g : Fin 768 → EReal) (n : ℕ) (hn : n = 2 * w + 1) :
    (∑ d : Fin n, if h : w ≤ r.val + d.val ∧ r.val + d.val - w < 768 then g ⟨r.val + d.val - w, h.2⟩ else 0) = box w r g := by
  subst hn
  have hd : ∀ d : Fin (2 * w + 1), (if h : w ≤ r.val + d.val ∧ r.val + d.val - w < 768 then g ⟨r.val + d.val - w, h.2⟩ else 0)
      = ∑ i : Fin 768, if i.val + w = r.val + d.val then g i else 0 := fun d => by
    split
    · next h =>
      rw [Finset.sum_eq_single_of_mem (⟨r.val + d.val - w, h.2⟩ : Fin 768) (Finset.mem_univ _) fun i _ hi => if_neg fun e => hi (Fin.ext (by show i.val = r.val + d.val - w; omega)),
        if_pos (by show r.val + d.val - w + w = r.val + d.val; omega)]
    · next h =>
      refine (Finset.sum_eq_zero fun i _ => if_neg fun e => h ?_).symm
      have := i.isLt
      omega
  rw [Finset.sum_congr rfl fun d _ => hd d, Finset.sum_comm, box]
  refine Finset.sum_congr rfl fun i _ => ?_
  split
  · next h =>
    obtain ⟨h1, h2⟩ := h
    rw [Finset.sum_eq_single_of_mem (⟨i.val + w - r.val, by omega⟩ : Fin (2 * w + 1)) (Finset.mem_univ _) fun d _ hd => if_neg fun e => hd (Fin.ext (by show d.val = i.val + w - r.val; omega)),
      if_pos (by show i.val + w = r.val + (i.val + w - r.val); omega)]
  · next h =>
    refine Finset.sum_eq_zero fun d _ => if_neg fun e => h ?_
    have := d.isLt
    exact ⟨by omega, by omega⟩

/-- A window of entries that are zero or above `t` sums to more than `t` exactly when one of them is above it. -/
theorem lt_box_iff (w : ℕ) (r : Fin 768) (g : Fin 768 → EReal) (t : EReal) (ht : 0 ≤ t) (hg : ∀ i, g i = 0 ∨ t < g i) :
    t < box w r g ↔ ∃ i, Near w r i ∧ t < g i := by
  have h0 : ∀ i, 0 ≤ if Near w r i then g i else 0 := fun i => by
    split
    · rcases hg i with h | h
      · rw [h]
      · exact ht.trans h.le
    · exact le_rfl
  constructor
  · intro h
    by_contra hne
    refine absurd h (not_lt.2 (le_trans (le_of_eq (Finset.sum_eq_zero fun i _ => ?_)) ht))
    split
    · next hi => exact (hg i).resolve_right fun hlt => hne ⟨i, hi, hlt⟩
    · rfl
  · rintro ⟨i, hi, hlt⟩
    have := Finset.single_le_sum (f := fun i => if Near w r i then g i else 0) (fun j _ => h0 j) (Finset.mem_univ i)
    simp only [if_pos hi] at this
    exact hlt.trans_le this

/-- A running maximum is above `t` exactly when its start is or a term is. -/
theorem lt_foldl_max {ι : Type} (L : List ι) (f : ι → EReal) (v t : EReal) :
    t < L.foldl (fun r n => max r (f n)) v ↔ t < v ∨ ∃ n ∈ L, t < f n := by
  induction L generalizing v with
  | nil => simp
  | cons a L ih => simp [ih, lt_max_iff, or_assoc]

/-- A running sum is its start and the sum of the terms. -/
theorem foldl_add {ι : Type} (L : List ι) (f : ι → EReal) (v : EReal) :
    L.foldl (fun r n => r + f n) v = v + (L.map f).sum := by
  induction L generalizing v with
  | nil => simp
  | cons a L ih => simp [ih, add_assoc]

end Cert.Proof

end
-- ==== Proof.Image.lean ====
/- What the kernel computes for one image, at `Ideal`: with the band matrices' slabs for operands, the column sums, the two
   results' column blocks, each read at an index. The printed text has each payload twice, once per image of a block; the
   second image's are the first's by definition. -/
module

public import proofs.«01_k».proof.Proof.Gen.KernelIdeal.Skeleton
public import proofs.«01_k».proof.Proof.Band
public import Idealize.ShloMosaic.Lib.Pointwise

@[expose] public section

set_option maxRecDepth 16384

noncomputable section

namespace Cert.Proof

open Cert.KernelIdeal Cert.KernelIdeal.Gen
open Idealize.ShloMosaic

/-- The literal one half. -/
abbrev half : EReal := Ideal.ofBits .f32 0x3F000000#32

/-- The literal 1/1225, as both programs write it. -/
abbrev scale : EReal := Ideal.ofBits .f32 0x3A55FEBF#32

/-- The smoothed mask at a pixel of the image `X`: the box sum of half-width 17, rows first, scaled. -/
def rsmAt (X : Fin 768 → Fin 768 → EReal) (r c : Fin 768) : EReal := box 17 c (fun k => box 17 r fun i => X i k) * scale

/-- Whether the column of half-width 15 around a pixel has a lesion, as a 0/1 value. -/
def colMark (X : Fin 768 → Fin 768 → EReal) (r k : Fin 768) : EReal := if half < box 15 r (fun i => X i k) then 1 else 0

/-- The label at a pixel of the image `X`: 1 on a lesion, 0 near one, else 2. -/
def pfmAt (X : Fin 768 → Fin 768 → EReal) (r c : Fin 768) : BitVec 32 :=
  if half < X r c then 1#32 else if half < box 15 c (colMark X r) then 0#32 else 2#32

/-- The three row slabs of the band matrix of half-width `w`: 256 rows each, with the columns that the rows' windows reach. -/
structure RowSlabs (w : ℕ) (p0 : S256x384.Idx → EReal) (p1 : S256x512.Idx → EReal) (p2 : S256x384.Idx → EReal) : Prop where
  first : ∀ (r : Fin 256) (k : Fin 384), p0 (ix2 r k) = band w ⟨r, by omega⟩ ⟨0 + k, by omega⟩
  middle : ∀ (r : Fin 256) (k : Fin 512), p1 (ix2 r k) = band w ⟨256 + r, by omega⟩ ⟨128 + k, by omega⟩
  last : ∀ (r : Fin 256) (k : Fin 384), p2 (ix2 r k) = band w ⟨512 + r, by omega⟩ ⟨384 + k, by omega⟩

/-- The three column slabs: 256 columns each, with the rows that the columns' windows reach. -/
structure ColSlabs (w : ℕ) (q0 : S384x256.Idx → EReal) (q1 : S512x256.Idx → EReal) (q2 : S384x256.Idx → EReal) : Prop where
  first : ∀ (k : Fin 384) (c : Fin 256), q0 (ix2 k c) = band w ⟨0 + k, by omega⟩ ⟨c, by omega⟩
  middle : ∀ (k : Fin 512) (c : Fin 256), q1 (ix2 k c) = band w ⟨128 + k, by omega⟩ ⟨256 + c, by omega⟩
  last : ∀ (k : Fin 384) (c : Fin 256), q2 (ix2 k c) = band w ⟨384 + k, by omega⟩ ⟨512 + c, by omega⟩

variable {w : ℕ} {p0 : S256x384.Idx → EReal} {p1 : S256x512.Idx → EReal} {p2 : S256x384.Idx → EReal}
  {q0 : S384x256.Idx → EReal} {q1 : S512x256.Idx → EReal} {q2 : S384x256.Idx → EReal}

/-- The three row blocks' products, laid end to end, are the window sums down the columns. -/
theorem RowSlabs.sum (h : RowSlabs w p0 p1 p2) (hw : w ≤ 128) (X : Fin 768 → EReal) (r : Fin 768) :
    (if h : r.val < 256 then ∑ x : Fin 384, p0 (ix2 ⟨r, h⟩ x) * X ⟨x, by omega⟩
      else if h : r.val - 256 < 256 then ∑ x : Fin 512, p1 (ix2 ⟨r.val - 256, h⟩ x) * X ⟨128 + x, by omega⟩
      else ∑ x : Fin 384, p2 (ix2 ⟨r.val - 256 - 256, by omega⟩ x) * X ⟨384 + x, by omega⟩) = box w r X := by
  split
  · refine box_of_span w r X 384 0 (by omega) (fun i hi => by omega) _ fun k => ?_
    rw [h.first, band_mul]
    simp only [Nat.zero_add]
  split
  · refine box_of_span w r X 512 128 (by omega) (fun i hi => by omega) _ fun k => ?_
    rw [h.middle, band_mul]
    simp only [show 256 + (r.val - 256) = r.val by omega]
  · refine box_of_span w r X 384 384 (by omega) (fun i hi => by omega) _ fun k => ?_
    rw [h.last, band_mul]
    simp only [show 512 + (r.val - 256 - 256) = r.val by omega]

/-- The first column block of a product with the band matrix. -/
theorem ColSlabs.sum_first (h : ColSlabs w q0 q1 q2) (hw : w ≤ 128) (Y : Fin 768 → EReal) (c : Fin 256) :
    ∑ x : Fin 384, Y ⟨x, by omega⟩ * q0 (ix2 x c) = box w ⟨c, by omega⟩ Y :=
  box_of_span w _ Y 384 0 (by omega) (fun i hi => by have := c.isLt; simp only [Near] at hi; omega) _ fun k => by
    rw [h.first, mul_band]; simp only [Nat.zero_add]

/-- The middle column block. -/
theorem ColSlabs.sum_middle (h : ColSlabs w q0 q1 q2) (hw : w ≤ 128) (Y : Fin 768 → EReal) (c : Fin 256) :
    ∑ x : Fin 512, Y ⟨128 + x, by omega⟩ * q1 (ix2 x c) = box w ⟨256 + c, by omega⟩ Y :=
  box_of_span w _ Y 512 128 (by omega) (fun i hi => by have := c.isLt; simp only [Near] at hi; omega) _ fun k => by
    rw [h.middle, mul_band]

/-- The last column block. -/
theorem ColSlabs.sum_last (h : ColSlabs w q0 q1 q2) (hw : w ≤ 128) (Y : Fin 768 → EReal) (c : Fin 256) :
    ∑ x : Fin 384, Y ⟨384 + x, by omega⟩ * q2 (ix2 x c) = box w ⟨512 + c, by omega⟩ Y :=
  box_of_span w _ Y 384 384 (by omega) (fun i hi => by have := c.isLt; simp only [Near] at hi; omega) _ fun k => by
    rw [h.last, mul_band]

/-- An image as its loads present it. -/
def img (v : S1x768x768.Idx → EReal) (i k : Fin 768) : EReal := v (ix3 0 i k)

/-- The column sums of half-width 17. -/
theorem pay9_at (h : RowSlabs 17 p0 p1 p2) (v : Vec Ideal S1x768x768 .f32) (r k : Fin 768) :
    k0_pay9 v p0 p1 p2 (ix2 r k) = box 17 r fun i => img v i k := by
  pointwise [k0_pay9, k0_pay8, k0_pay7]
  exact h.sum (by omega) (fun i => img v i k) r

/-- The column marks. -/
theorem pay10_at (h : RowSlabs 15 p0 p1 p2) (v : Vec Ideal S1x768x768 .f32) (r k : Fin 768) :
    k0_pay10 v p0 p1 p2 (ix2 r k) = colMark (img v) r k := by
  pointwise [k0_pay10, k0_pay8, k0_pay7]
  unfold colMark
  rw [← h.sum (by omega) (fun i => img v i k) r]
  rfl

section Rsm

variable {r0 : S256x384.Idx → EReal} {r1 : S256x512.Idx → EReal} {r2 : S256x384.Idx → EReal}
variable (hp : RowSlabs 17 p0 p1 p2) (hq : ColSlabs 17 q0 q1 q2) (v : Vec Ideal S1x768x768 .f32) (z : Fin 1) (r : Fin 768) (c : Fin 256)

include hp hq

theorem rsm_first : k0_pay12 (k0_pay9 v p0 p1 p2) q0 (ix3 z r c) = rsmAt (img v) r ⟨c, by omega⟩ := by
  pointwise [k0_pay12]
  unfold rsmAt
  rw [← hq.sum_first (by omega)]
  simp only [pay9_at hp]

theorem rsm_middle : k0_pay14 (k0_pay9 v p0 p1 p2) q1 (ix3 z r c) = rsmAt (img v) r ⟨256 + c, by omega⟩ := by
  pointwise [k0_pay14]
  unfold rsmAt
  rw [← hq.sum_middle (by omega)]
  simp only [pay9_at hp]

theorem rsm_last : k0_pay16 (k0_pay9 v p0 p1 p2) q2 (ix3 z r c) = rsmAt (img v) r ⟨512 + c, by omega⟩ := by
  pointwise [k0_pay16]
  unfold rsmAt
  rw [← hq.sum_last (by omega)]
  simp only [pay9_at hp]

end Rsm

section Pfm

variable (hp : RowSlabs 15 p0 p1 p2) (hq : ColSlabs 15 q0 q1 q2) (v : Vec Ideal S1x768x768 .f32) (z : Fin 1) (r : Fin 768) (c : Fin 256)

include hp hq

theorem pfm_first : k0_pay13 (k0_pay7 v) (k0_pay10 v p0 p1 p2) q0 (ix3 z r c) = pfmAt (img v) r ⟨c, by omega⟩ := by
  pointwise [k0_pay13, k0_pay11, k0_pay7]
  unfold pfmAt
  rw [← hq.sum_first (by omega)]
  simp only [pay10_at hp]
  rfl

theorem pfm_middle : k0_pay15 (k0_pay7 v) (k0_pay11 (k0_pay10 v p0 p1 p2)) q1 (ix3 z r c) = pfmAt (img v) r ⟨256 + c, by omega⟩ := by
  pointwise [k0_pay15, k0_pay11, k0_pay7]
  unfold pfmAt
  rw [← hq.sum_middle (by omega)]
  simp only [pay10_at hp]
  rfl

theorem pfm_last : k0_pay19 (k0_pay17 (k0_pay7 v)) (k0_pay18 (k0_pay11 (k0_pay10 v p0 p1 p2)) q2) 0#32 2#32 (ix3 z r c)
    = pfmAt (img v) r ⟨512 + c, by omega⟩ := by
  pointwise [k0_pay19, k0_pay18, k0_pay17, k0_pay11, k0_pay7]
  unfold pfmAt
  rw [← hq.sum_last (by omega)]
  simp only [pay10_at hp]
  rfl

end Pfm

end Cert.Proof

end
-- ==== Proof.Pieces.lean ====
/- What the body leaves in a block of each result. Both cases of the body — the first point, which stores the band matrices
   before it reads them, and the later points, which find them in the scratch — store the same six pieces per result, at the
   band matrices they read; and each piece is a block of one function of the input block. -/
module

public import proofs.«01_k».proof.Proof.Gen.KernelIdeal.Frame
public import proofs.«01_k».proof.Proof.Image
public import Idealize.ShloMosaic.Lib.WholeRead
public import Idealize.ShloMosaic.Lib.Pipeline.ReadBack

@[expose] public section

set_option maxRecDepth 16384

noncomputable section

namespace Cert.Proof

open Cert.KernelIdeal Cert.KernelIdeal.Gen
open Idealize.ShloMosaic Idealize.ShloMosaic.TcCoe

/-! ## The loads -/

/-- The first and the second image of a block. -/
abbrev ld0 (x : S2x768x768.Idx → EReal) : S1x768x768.Idx → EReal :=
  View.ld (Val := fun _ : EltTy => EReal) (e' := .f32) x (Rect.unit (s := S2x768x768) ![0, 0, 0] S1x768x768.size inb_S2x768x768_S1x768x768_0_0_0)
abbrev ld1 (x : S2x768x768.Idx → EReal) : S1x768x768.Idx → EReal :=
  View.ld (Val := fun _ : EltTy => EReal) (e' := .f32) x (Rect.unit (s := S2x768x768) ![1, 0, 0] S1x768x768.size inb_S2x768x768_S1x768x768_1_0_0)

/-- The three row slabs of a matrix. -/
abbrev row0 (B : S768x768.Idx → EReal) : S256x384.Idx → EReal :=
  View.ld (Val := fun _ : EltTy => EReal) (e' := .f32) B (Rect.unit (s := S768x768) ![0, 0] S256x384.size inb_S768x768_S256x384_0_0)
abbrev row1 (B : S768x768.Idx → EReal) : S256x512.Idx → EReal :=
  View.ld (Val := fun _ : EltTy => EReal) (e' := .f32) B (Rect.unit (s := S768x768) ![256, 128] S256x512.size inb_S768x768_S256x512_256_128)
abbrev row2 (B : S768x768.Idx → EReal) : S256x384.Idx → EReal :=
  View.ld (Val := fun _ : EltTy => EReal) (e' := .f32) B (Rect.unit (s := S768x768) ![512, 384] S256x384.size inb_S768x768_S256x384_512_384)

/-- The three column slabs of a matrix. -/
abbrev col0 (B : S768x768.Idx → EReal) : S384x256.Idx → EReal :=
  View.ld (Val := fun _ : EltTy => EReal) (e' := .f32) B (Rect.unit (s := S768x768) ![0, 0] S384x256.size inb_S768x768_S384x256_0_0)
abbrev col1 (B : S768x768.Idx → EReal) : S512x256.Idx → EReal :=
  View.ld (Val := fun _ : EltTy => EReal) (e' := .f32) B (Rect.unit (s := S768x768) ![128, 256] S512x256.size inb_S768x768_S512x256_128_256)
abbrev col2 (B : S768x768.Idx → EReal) : S384x256.Idx → EReal :=
  View.ld (Val := fun _ : EltTy => EReal) (e' := .f32) B (Rect.unit (s := S768x768) ![384, 512] S384x256.size inb_S768x768_S384x256_384_512)

/-- A matrix that is the band of half-width `w`. -/
def IsBand (w : ℕ) (B : S768x768.Idx → EReal) : Prop := ∀ i j : Fin 768, B (ix2 i j) = band w i j

theorem IsBand.rows {w : ℕ} {B : S768x768.Idx → EReal} (h : IsBand w B) : RowSlabs w (row0 B) (row1 B) (row2 B) where
  first r k := by pointwise [row0, row1, row2, col0, col1, col2]; rw [h]
  middle r k := by pointwise [row0, row1, row2, col0, col1, col2]; rw [h]
  last r k := by pointwise [row0, row1, row2, col0, col1, col2]; rw [h]

theorem IsBand.cols {w : ℕ} {B : S768x768.Idx → EReal} (h : IsBand w B) : ColSlabs w (col0 B) (col1 B) (col2 B) where
  first r k := by pointwise [row0, row1, row2, col0, col1, col2]; rw [h]
  middle r k := by pointwise [row0, row1, row2, col0, col1, col2]; rw [h]
  last r k := by pointwise [row0, row1, row2, col0, col1, col2]; rw [h]

/-! ## The pieces -/

/-- The smoothed masks' block columns of one image, `B` the matrix of the column sums and `A` that of the row sums. -/
abbrev sum0 (v : Vec Ideal S1x768x768 .f32) (A : FVec Ideal S768x768 .bf16) (B : FVec Ideal S768x768 .fp8e4m3) : FVec Ideal S1x768x256 .f32 :=
  k0_pay12 (k0_pay9 v (row0 B) (row1 B) (row2 B)) (col0 A)
abbrev sum1 (v : Vec Ideal S1x768x768 .f32) (A : FVec Ideal S768x768 .bf16) (B : FVec Ideal S768x768 .fp8e4m3) : FVec Ideal S1x768x256 .f32 :=
  k0_pay14 (k0_pay9 v (row0 B) (row1 B) (row2 B)) (col1 A)
abbrev sum2 (v : Vec Ideal S1x768x768 .f32) (A : FVec Ideal S768x768 .bf16) (B : FVec Ideal S768x768 .fp8e4m3) : FVec Ideal S1x768x256 .f32 :=
  k0_pay16 (k0_pay9 v (row0 B) (row1 B) (row2 B)) (col2 A)

/-- The six pieces of the smoothed masks. -/
def rsmPieces (x : Vec Ideal S2x768x768 .f32) (A : FVec Ideal S768x768 .bf16) (B : FVec Ideal S768x768 .fp8e4m3) :
    List (View.Piece (Elt Ideal) S2x768x768 .f32) :=
  [⟨Rect.unit ![1, 0, 512] ![1, 768, 256] inb_S2x768x768_S1x768x256_1_0_512, sum2 (ld1 x) A B⟩,
    ⟨Rect.unit ![1, 0, 256] ![1, 768, 256] inb_S2x768x768_S1x768x256_1_0_256, sum1 (ld1 x) A B⟩,
    ⟨Rect.unit ![1, 0, 0] ![1, 768, 256] inb_S2x768x768_S1x768x256_1_0_0, sum0 (ld1 x) A B⟩,
    ⟨Rect.unit ![0, 0, 512] ![1, 768, 256] inb_S2x768x768_S1x768x256_0_0_512, sum2 (ld0 x) A B⟩,
    ⟨Rect.unit ![0, 0, 256] ![1, 768, 256] inb_S2x768x768_S1x768x256_0_0_256, sum1 (ld0 x) A B⟩,
    ⟨Rect.unit ![0, 0, 0] ![1, 768, 256] inb_S2x768x768_S1x768x256_0_0_0, sum0 (ld0 x) A B⟩]

/-- The labels' block columns of one image, `C` the matrix of both window sums. -/
abbrev lab0 (v : Vec Ideal S1x768x768 .f32) (C : FVec Ideal S768x768 .fp8e4m3) : IVec S1x768x256 32 :=
  k0_pay13 (k0_pay7 v) (k0_pay10 v (row0 C) (row1 C) (row2 C)) (col0 C)
abbrev lab1 (v : Vec Ideal S1x768x768 .f32) (C : FVec Ideal S768x768 .fp8e4m3) : IVec S1x768x256 32 :=
  k0_pay15 (k0_pay7 v) (k0_pay11 (k0_pay10 v (row0 C) (row1 C) (row2 C))) (col1 C)
abbrev lab2 (v : Vec Ideal S1x768x768 .f32) (C : FVec Ideal S768x768 .fp8e4m3) : IVec S1x768x256 32 :=
  k0_pay19 (k0_pay17 (k0_pay7 v)) (k0_pay18 (k0_pay11 (k0_pay10 v (row0 C) (row1 C) (row2 C))) (col2 C)) 0#32 2#32

/-- The six pieces of the labels. -/
def pfmPieces (x : Vec Ideal S2x768x768 .f32) (C : FVec Ideal S768x768 .fp8e4m3) : List (View.Piece (Elt Ideal) S2x768x768 .i32) :=
  [⟨Rect.unit ![1, 0, 512] ![1, 768, 256] inb_S2x768x768_S1x768x256_1_0_512, lab2 (ld1 x) C⟩,
    ⟨Rect.unit ![1, 0, 256] ![1, 768, 256] inb_S2x768x768_S1x768x256_1_0_256, lab1 (ld1 x) C⟩,
    ⟨Rect.unit ![1, 0, 0] ![1, 768, 256] inb_S2x768x768_S1x768x256_1_0_0, lab0 (ld1 x) C⟩,
    ⟨Rect.unit ![0, 0, 512] ![1, 768, 256] inb_S2x768x768_S1x768x256_0_0_512, lab2 (ld0 x) C⟩,
    ⟨Rect.unit ![0, 0, 256] ![1, 768, 256] inb_S2x768x768_S1x768x256_0_0_256, lab1 (ld0 x) C⟩,
    ⟨Rect.unit ![0, 0, 0] ![1, 768, 256] inb_S2x768x768_S1x768x256_0_0_0, lab0 (ld0 x) C⟩]

/-- What a function of one image gives on a block of two. -/
def onBlk {α : Type} (f : (Fin 768 → Fin 768 → EReal) → Fin 768 → Fin 768 → α) (x : S2x768x768.Idx → EReal) (y : S2x768x768.Idx) : α :=
  f (fun i k => x (ix3 (y 0) i k)) (y 1) (y 2)

theorem img_ld0 (x : S2x768x768.Idx → EReal) : img (ld0 x) = fun i k => x (ix3 0 i k) := by
  funext i k; unfold img ld0; pointwise
theorem img_ld1 (x : S2x768x768.Idx → EReal) : img (ld1 x) = fun i k => x (ix3 1 i k) := by
  funext i k; unfold img ld1; pointwise

/-- A piece whose entries are those of `f` on image `b`, from the column `off` on, is a block of `f`'s function of the whole input block. -/
theorem piece_of {α : Type} (f : (Fin 768 → Fin 768 → EReal) → Fin 768 → Fin 768 → α) (x : S2x768x768.Idx → EReal) (b : Fin 2) {n off : ℕ} (hn : n = b.val)
    (inb) (hoff : off + 256 ≤ 768) (p : S1x768x256.Idx → α)
    (hp : ∀ z r (c : Fin 256), p (ix3 z r c) = f (fun i k => x (ix3 b i k)) r ⟨off + c.val, by omega⟩) (z : S1x768x256.Idx) :
    p z = onBlk f x ((Rect.unit (s := S2x768x768) ![n, 0, off] ![1, 768, 256] inb).emb z) := by
  have h0 : (z 0).val < 1 := (z 0).isLt
  have e0 : ((Rect.unit (s := S2x768x768) ![n, 0, off] ![1, 768, 256] inb).emb z) 0 = b :=
    Fin.ext (show n + 1 * (z 0).val = b.val by omega)
  have e1 : ((Rect.unit (s := S2x768x768) ![n, 0, off] ![1, 768, 256] inb).emb z) 1 = (z 1 : Fin 768) :=
    Fin.ext (show 0 + 1 * (z 1).val = (z 1).val by omega)
  have e2 : ((Rect.unit (s := S2x768x768) ![n, 0, off] ![1, 768, 256] inb).emb z) 2 = (⟨off + (z 2).val, by have : (z 2).val < 256 := (z 2).isLt; omega⟩ : Fin 768) :=
    Fin.ext (show off + 1 * (z 2).val = off + (z 2).val by omega)
  unfold onBlk
  rw [e0, e1, e2]
  have hz : z = ix3 (z 0) (z 1) (z 2) := by idx_vars z; rfl
  exact (congrArg p hz).trans (hp (z 0) (z 1) (z 2))

theorem rsmPieces_of (x : Vec Ideal S2x768x768 .f32) (A : FVec Ideal S768x768 .bf16) (B : FVec Ideal S768x768 .fp8e4m3)
    (hA : IsBand 17 A) (hB : IsBand 17 B) : View.PiecesOf (Val := Elt Ideal) (e := .f32) (onBlk rsmAt x) (rsmPieces x A B) := by
  have first (v z r c) : sum0 v A B (ix3 z r c) = rsmAt (img v) r ⟨0 + c.val, by omega⟩ :=
    (rsm_first hB.rows hA.cols v z r c).trans (by simp only [Nat.zero_add])
  have middle (v) := rsm_middle hB.rows hA.cols v
  have last (v) := rsm_last hB.rows hA.cols v
  refine ⟨?_, ?_, ?_, ?_, ?_, ?_, trivial⟩
  · exact piece_of rsmAt x 1 (n := 1) (off := 512) rfl inb_S2x768x768_S1x768x256_1_0_512 (by omega) _ (img_ld1 x ▸ last (ld1 x))
  · exact piece_of rsmAt x 1 (n := 1) (off := 256) rfl inb_S2x768x768_S1x768x256_1_0_256 (by omega) _ (img_ld1 x ▸ middle (ld1 x))
  · exact piece_of rsmAt x 1 (n := 1) (off := 0) rfl inb_S2x768x768_S1x768x256_1_0_0 (by omega) _ (img_ld1 x ▸ first (ld1 x))
  · exact piece_of rsmAt x 0 (n := 0) (off := 512) rfl inb_S2x768x768_S1x768x256_0_0_512 (by omega) _ (img_ld0 x ▸ last (ld0 x))
  · exact piece_of rsmAt x 0 (n := 0) (off := 256) rfl inb_S2x768x768_S1x768x256_0_0_256 (by omega) _ (img_ld0 x ▸ middle (ld0 x))
  · exact piece_of rsmAt x 0 (n := 0) (off := 0) rfl inb_S2x768x768_S1x768x256_0_0_0 (by omega) _ (img_ld0 x ▸ first (ld0 x))

theorem pfmPieces_of (x : Vec Ideal S2x768x768 .f32) (C : FVec Ideal S768x768 .fp8e4m3)
    (hC : IsBand 15 C) : View.PiecesOf (Val := Elt Ideal) (e := .i32) (onBlk pfmAt x) (pfmPieces x C) := by
  have first (v z r c) : lab0 v C (ix3 z r c) = pfmAt (img v) r ⟨0 + c.val, by omega⟩ :=
    (pfm_first hC.rows hC.cols v z r c).trans (by simp only [Nat.zero_add])
  have middle (v) := pfm_middle hC.rows hC.cols v
  have last (v) := pfm_last hC.rows hC.cols v
  refine ⟨?_, ?_, ?_, ?_, ?_, ?_, trivial⟩
  · exact piece_of pfmAt x 1 (n := 1) (off := 512) rfl inb_S2x768x768_S1x768x256_1_0_512 (by omega) _ (img_ld1 x ▸ last (ld1 x))
  · exact piece_of pfmAt x 1 (n := 1) (off := 256) rfl inb_S2x768x768_S1x768x256_1_0_256 (by omega) _ (img_ld1 x ▸ middle (ld1 x))
  · exact piece_of pfmAt x 1 (n := 1) (off := 0) rfl inb_S2x768x768_S1x768x256_1_0_0 (by omega) _ (img_ld1 x ▸ first (ld1 x))
  · exact piece_of pfmAt x 0 (n := 0) (off := 512) rfl inb_S2x768x768_S1x768x256_0_0_512 (by omega) _ (img_ld0 x ▸ last (ld0 x))
  · exact piece_of pfmAt x 0 (n := 0) (off := 256) rfl inb_S2x768x768_S1x768x256_0_0_256 (by omega) _ (img_ld0 x ▸ middle (ld0 x))
  · exact piece_of pfmAt x 0 (n := 0) (off := 0) rfl inb_S2x768x768_S1x768x256_0_0_0 (by omega) _ (img_ld0 x ▸ first (ld0 x))

end Cert.Proof

end
-- ==== Proof.Block.lean ====
/- What one point leaves in its blocks of the results and in the scratch. The pieces that the two cases of the body store are
   those of Pieces.lean: the first point reads the band matrices that it has just stored, the later points read what the scratch
   holds. Six pieces cover a block, so the block is the function of the input block whose blocks they are. -/
module

public import proofs.«01_k».proof.Proof.Pieces
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe

/-- A load from a whole buffer that holds `X` reads `X` through the load's rectangle. -/
theorem readAt_held {κ : Kind} {sp : Space} {s : Shape} {e : EltTy} {g : Memref sig κ sp s e} (h : g.IsWhole) (X : s.Idx → Elt Ideal e) (r : Rect s) :
    View.readAt (Elt Ideal) g.view r.toLoadRect (h.unread X) = View.ld X r :=
  funext fun z => h.readAt_unread X r.toLoadRect z

/-- A load from a buffer that one store has filled reads what was stored. -/
theorem readCov_filled {κ : Kind} {sp : Space} {e : EltTy} (v : View sig κ sp S768x768 e) (Z : S768x768.Idx → Elt Ideal e) (r : Rect S768x768) :
    v.readCov [⟨Rect.unit ![0, 0] S768x768.size inb_S768x768_S768x768_0_0, Z⟩] r.toLoadRect = View.ld Z r :=
  View.readCov_fill v inb_S768x768_S768x768_0_0 Z [] r (by decide)

section
variable (c : Dev nD) (i : grid0.Coords) (arg1 : Memref sig .tc .vmem S2x768x768 .f32) (harg1 : arg1.IsWhole) (arg2 : Memref sig .tc .vmem S2x768x768 .f32) (harg2 : arg2.IsWhole) (arg3 : Memref sig .tc .vmem S2x768x768 .i32) (harg3 : arg3.IsWhole) (arg4 : Memref sig .tc .vmem S768x768 .bf16) (harg4 : arg4.IsWhole) (arg5 : Memref sig .tc .vmem S768x768 .fp8e4m3) (harg5 : arg5.IsWhole) (arg6 : Memref sig .tc .vmem S768x768 .fp8e4m3) (harg6 : arg6.IsWhole)
  (x0 : Vec Ideal S2x768x768 .f32)

/-! The slabs that the first point loads, of the matrices that it has stored. -/

theorem load_v6 : kernelRun0_A.sl.v6 (F := Ideal) c arg5 = row0 (k0_pay5 (F := Ideal)) := readCov_filled _ _ _
theorem load_v12 : kernelRun0_A.sl.v12 (F := Ideal) c arg5 = row1 (k0_pay5 (F := Ideal)) := readCov_filled _ _ _
theorem load_v18 : kernelRun0_A.sl.v18 (F := Ideal) c arg5 = row2 (k0_pay5 (F := Ideal)) := readCov_filled _ _ _
theorem load_v9 : kernelRun0_A.sl.v9 (F := Ideal) c arg6 = row0 (k0_pay6 (F := Ideal)) := readCov_filled _ _ _
theorem load_v15 : kernelRun0_A.sl.v15 (F := Ideal) c arg6 = row1 (k0_pay6 (F := Ideal)) := readCov_filled _ _ _
theorem load_v21 : kernelRun0_A.sl.v21 (F := Ideal) c arg6 = row2 (k0_pay6 (F := Ideal)) := readCov_filled _ _ _
theorem load_v34 : kernelRun0_A.sl.v34 (F := Ideal) c arg4 = col0 (k0_pay4 (F := Ideal)) := readCov_filled _ _ _
theorem load_v58 : kernelRun0_A.sl.v58 (F := Ideal) c arg4 = col1 (k0_pay4 (F := Ideal)) := readCov_filled _ _ _
theorem load_v82 : kernelRun0_A.sl.v82 (F := Ideal) c arg4 = col2 (k0_pay4 (F := Ideal)) := readCov_filled _ _ _
theorem load_v42 : kernelRun0_A.sl.v42 (F := Ideal) c arg6 = col0 (k0_pay6 (F := Ideal)) := readCov_filled _ _ _
theorem load_v66 : kernelRun0_A.sl.v66 (F := Ideal) c arg6 = col1 (k0_pay6 (F := Ideal)) := readCov_filled _ _ _
theorem load_v90 : kernelRun0_A.sl.v90 (F := Ideal) c arg6 = col2 (k0_pay6 (F := Ideal)) := readCov_filled _ _ _

include harg1 harg4 harg5 harg6

/-- A later point's pieces, over what it holds in the scratch. -/
theorem runB_rsm (hc : ¬cond0_0 i) (a : Vec Ideal S768x768 .bf16) (b d : Vec Ideal S768x768 .fp8e4m3) :
    (kernelRun0_B c i arg1 harg1 arg2 harg2 arg3 harg3 arg4 harg4 arg5 harg5 arg6 harg6 hc x0 a b d).1 = rsmPieces x0 a b := by
  unfold kernelRun0_B
  dsimp only
  simp only [kernelRun0_B.sl.r_1, kernelRun0_B.sl.r_4, kernelRun0_B.sl.r_9, kernelRun0_B.sl.r_11, kernelRun0_B.sl.v0, kernelRun0_B.sl.v1, kernelRun0_B.sl.v2, readAt_held]
  rfl

theorem runB_pfm (hc : ¬cond0_0 i) (a : Vec Ideal S768x768 .bf16) (b d : Vec Ideal S768x768 .fp8e4m3) :
    (kernelRun0_B c i arg1 harg1 arg2 harg2 arg3 harg3 arg4 harg4 arg5 harg5 arg6 harg6 hc x0 a b d).2.1 = pfmPieces x0 d := by
  unfold kernelRun0_B
  dsimp only
  simp only [kernelRun0_B.sl.r, kernelRun0_B.sl.r_2, kernelRun0_B.sl.r_3, kernelRun0_B.sl.r_5, kernelRun0_B.sl.r_6, kernelRun0_B.sl.r_7, kernelRun0_B.sl.r_8, kernelRun0_B.sl.r_10, kernelRun0_B.sl.r_12,
    kernelRun0_B.sl.r_13, kernelRun0_B.sl.v0, kernelRun0_B.sl.v1, kernelRun0_B.sl.v2, readAt_held]
  rfl

/-- The first point's pieces, over the matrices that it stores in the scratch. -/
theorem runA_rsm (hc : cond0_0 i) :
    (kernelRun0_A c i arg1 harg1 arg2 harg2 arg3 harg3 arg4 harg4 arg5 harg5 arg6 harg6 hc x0).1 = rsmPieces x0 (k0_pay4 (F := Ideal)) (k0_pay5 (F := Ideal)) := by
  unfold kernelRun0_A
  dsimp only
  simp only [kernelRun0_A.sl.r_1, kernelRun0_A.sl.r_4, kernelRun0_A.sl.r_9, kernelRun0_A.sl.r_11, kernelRun0_A.sl.v0, kernelRun0_A.sl.v1, kernelRun0_A.sl.v2,
    load_v6, load_v12, load_v18, load_v34, load_v58, load_v82, readAt_held]
  rfl

theorem runA_pfm (hc : cond0_0 i) :
    (kernelRun0_A c i arg1 harg1 arg2 harg2 arg3 harg3 arg4 harg4 arg5 harg5 arg6 harg6 hc x0).2.1 = pfmPieces x0 (k0_pay6 (F := Ideal)) := by
  unfold kernelRun0_A
  dsimp only
  simp only [kernelRun0_A.sl.r, kernelRun0_A.sl.r_2, kernelRun0_A.sl.r_3, kernelRun0_A.sl.r_5, kernelRun0_A.sl.r_6, kernelRun0_A.sl.r_7, kernelRun0_A.sl.r_8, kernelRun0_A.sl.r_10, kernelRun0_A.sl.r_12,
    kernelRun0_A.sl.r_13, kernelRun0_A.sl.v0, kernelRun0_A.sl.v1, kernelRun0_A.sl.v2, load_v9, load_v15, load_v21, load_v42, load_v66,
    load_v90, readAt_held]
  rfl

/-! ## The blocks -/

theorem outA_rsm (hc : cond0_0 i) (hA : IsBand 17 (k0_pay4 (F := Ideal))) (hB : IsBand 17 (k0_pay5 (F := Ideal))) :
    out0_A_1 c i arg1 harg1 arg2 harg2 arg3 harg3 arg4 harg4 arg5 harg5 arg6 harg6 hc x0 = onBlk rsmAt x0 :=
  funext fun y => View.read_writes_apply_of_pieces _ _ _ _ (runA_rsm c i arg1 harg1 arg2 harg2 arg3 harg3 arg4 harg4 arg5 harg5 arg6 harg6 x0 hc ▸ (rsmPieces_of x0 _ _ hA hB).mem) y
    (cover0_A_1 c i arg1 harg1 arg2 harg2 arg3 harg3 arg4 harg4 arg5 harg5 arg6 harg6 hc x0 y)

theorem outA_pfm (hc : cond0_0 i) (hC : IsBand 15 (k0_pay6 (F := Ideal))) :
    out0_A_2 c i arg1 harg1 arg2 harg2 arg3 harg3 arg4 harg4 arg5 harg5 arg6 harg6 hc x0 = onBlk pfmAt x0 :=
  funext fun y => View.read_writes_apply_of_pieces _ _ _ _ (runA_pfm c i arg1 harg1 arg2 harg2 arg3 harg3 arg4 harg4 arg5 harg5 arg6 harg6 x0 hc ▸ (pfmPieces_of x0 _ hC).mem) y
    (cover0_A_2 c i arg1 harg1 arg2 harg2 arg3 harg3 arg4 harg4 arg5 harg5 arg6 harg6 hc x0 y)

theorem outB_rsm (hc : ¬cond0_0 i) (a : Vec Ideal S768x768 .bf16) (b d : Vec Ideal S768x768 .fp8e4m3) (hA : IsBand 17 a) (hB : IsBand 17 b) :
    out0_B_1 c i arg1 harg1 arg2 harg2 arg3 harg3 arg4 harg4 arg5 harg5 arg6 harg6 hc x0 a b d = onBlk rsmAt x0 :=
  funext fun y => View.read_writes_apply_of_pieces _ _ _ _ (runB_rsm c i arg1 harg1 arg2 harg2 arg3 harg3 arg4 harg4 arg5 harg5 arg6 harg6 x0 hc a b d ▸ (rsmPieces_of x0 _ _ hA hB).mem) y
    (cover0_B_1 c i arg1 harg1 arg2 harg2 arg3 harg3 arg4 harg4 arg5 harg5 arg6 harg6 hc x0 a b d y)

theorem outB_pfm (hc : ¬cond0_0 i) (a : Vec Ideal S768x768 .bf16) (b d : Vec Ideal S768x768 .fp8e4m3) (hC : IsBand 15 d) :
    out0_B_2 c i arg1 harg1 arg2 harg2 arg3 harg3 arg4 harg4 arg5 harg5 arg6 harg6 hc x0 a b d = onBlk pfmAt x0 :=
  funext fun y => View.read_writes_apply_of_pieces _ _ _ _ (runB_pfm c i arg1 harg1 arg2 harg2 arg3 harg3 arg4 harg4 arg5 harg5 arg6 harg6 x0 hc a b d ▸ (pfmPieces_of x0 _ hC).mem) y
    (cover0_B_2 c i arg1 harg1 arg2 harg2 arg3 harg3 arg4 harg4 arg5 harg5 arg6 harg6 hc x0 a b d y)

/-! ## The scratch after the first point -/

theorem soutA_0 (hc : cond0_0 i) : sout0_A_0 c i arg1 harg1 arg2 harg2 arg3 harg3 arg4 harg4 arg5 harg5 arg6 harg6 hc x0 = k0_pay4 (F := Ideal) := by
  unfold sout0_A_0 kernelRun0_A
  dsimp only
  rw [kernelRun0_A.sl.HS0_1]
  exact View.read_writes_full _ _ _ _ _
theorem soutA_1 (hc : cond0_0 i) : sout0_A_1 c i arg1 harg1 arg2 harg2 arg3 harg3 arg4 harg4 arg5 harg5 arg6 harg6 hc x0 = k0_pay5 (F := Ideal) := by
  unfold sout0_A_1 kernelRun0_A
  dsimp only
  rw [kernelRun0_A.sl.HS1_1]
  exact View.read_writes_full _ _ _ _ _
theorem soutA_2 (hc : cond0_0 i) : sout0_A_2 c i arg1 harg1 arg2 harg2 arg3 harg3 arg4 harg4 arg5 harg5 arg6 harg6 hc x0 = k0_pay6 (F := Ideal) := by
  unfold sout0_A_2 kernelRun0_A
  dsimp only
  rw [kernelRun0_A.sl.HS2_1]
  exact View.read_writes_full _ _ _ _ _

end

end Cert.Proof

end
-- ==== Proof.Scratch.lean ====
/- The scratch holds the three band matrices at every point. The first point computes each from the distance of an entry from the
   diagonal, a difference of two counts below 768; the later points store nothing there. -/
module

public import proofs.«01_k».proof.Proof.Block

@[expose] public section

set_option maxRecDepth 16384

noncomputable section

namespace Cert.Proof

open Cert.KernelIdeal Cert.KernelIdeal.Gen
open Idealize.ShloMosaic Idealize.ShloMosaic.TcCoe

/-- The distance of two counts, as the body computes it: the absolute value of their difference of words. -/
theorem distance (i j : Fin 768) : (IntOp.absi (IntOp.subi (BitVec.ofNat 32 i.val) (BitVec.ofNat 32 j.val))).toInt = ((i.val : ℤ) - j.val).natAbs := by
  have hi := i.isLt
  have hj := j.isLt
  have e : (BitVec.ofNat 32 i.val - BitVec.ofNat 32 j.val).toNat = if j.val ≤ i.val then i.val - j.val else 4294967296 - (j.val - i.val) := by
    rw [BitVec.toNat_sub, BitVec.toNat_ofNat, BitVec.toNat_ofNat]
    split <;> omega
  unfold IntOp.absi IntOp.subi
  by_cases h : j.val ≤ i.val
  · rw [if_pos h] at e
    have hm : (BitVec.ofNat 32 i.val - BitVec.ofNat 32 j.val).msb = false := by
      rw [BitVec.msb_eq_decide, e]
      exact decide_eq_false (by omega)
    rw [hm, if_neg (by decide), BitVec.toInt_eq_toNat_of_lt (by omega), e]
    omega
  · rw [if_neg h] at e
    have hm : (BitVec.ofNat 32 i.val - BitVec.ofNat 32 j.val).msb = true := by
      rw [BitVec.msb_eq_decide, e]
      exact decide_eq_true (by omega)
    have en : (-(BitVec.ofNat 32 i.val - BitVec.ofNat 32 j.val)).toNat = j.val - i.val := by
      rw [BitVec.toNat_neg, e]
      omega
    rw [hm, if_pos rfl, BitVec.toInt_eq_toNat_of_lt (by omega), en]
    omega

/-- The choice by "the distance of `i` and `j` is at most `w`". -/
theorem select_near (w : ℕ) (hw : w < 768) (i j : Fin 768) :
    Scalar.select (IntOp.cmpi .sle (IntOp.absi (IntOp.subi (BitVec.ofNat 32 i.val) (BitVec.ofNat 32 j.val))) (BitVec.ofNat 32 w)) (1 : EReal) 0 = band w i j := by
  have hi := i.isLt
  have hj := j.isLt
  have h : BitVec.sle (IntOp.absi (IntOp.subi (BitVec.ofNat 32 i.val) (BitVec.ofNat 32 j.val))) (BitVec.ofNat 32 w) = decide (Near w i j) := by
    rw [BitVec.sle_eq_decide, distance, BitVec.toInt_eq_toNat_of_lt (x := BitVec.ofNat 32 w) (by rw [BitVec.toNat_ofNat]; omega), BitVec.toNat_ofNat]
    apply decide_eq_decide.mpr
    unfold Near
    omega
  unfold IntOp.cmpi band
  dsimp only
  rw [h]
  by_cases n : Near w i j
  · rw [decide_eq_true n, if_pos n]; rfl
  · rw [decide_eq_false n, if_neg n]; rfl

theorem band_4 : IsBand 17 (k0_pay4 (F := Ideal)) := by
  intro i j
  pointwise [k0_pay4, k0_pay3, k0_pay2]
  exact select_near 17 (by omega) i j

theorem band_5 : IsBand 17 (k0_pay5 (F := Ideal)) := by
  intro i j
  pointwise [k0_pay5, k0_pay3, k0_pay2]
  exact select_near 17 (by omega) i j

theorem band_6 : IsBand 15 (k0_pay6 (F := Ideal)) := by
  intro i j
  pointwise [k0_pay6, k0_pay2]
  exact select_near 15 (by omega) i j

variable (m : (ℓ : Loc nD τ sig) → Buf (Elt Ideal) ℓ) (c : Dev nD)

/-- A later point leaves the scratch as it was. -/
theorem scratch_kept (t : Fin cfg0.N) (h : ¬t.val % 16 = 0) :
    (outsAt0 m c t.val t.isLt).2.2 = (outsAt0 m c (t.val - 1) (Nat.lt_of_le_of_lt (Nat.sub_le _ _) t.isLt)).2.2 := by
  rw [outsAt0_B m c t h]
  dsimp only [sout0_B_0, sout0_B_1, sout0_B_2]

/-- After every point the scratch holds what the first point stored. -/
theorem scratch_at : ∀ (n : ℕ) (hn : n < cfg0.N), (outsAt0 m c n hn).2.2 = (k0_pay4 (F := Ideal), k0_pay5 (F := Ideal), k0_pay6 (F := Ideal))
  | 0, hn => by
    refine (congrArg (fun p => p.2.2) (outsAt0_A m c ⟨0, hn⟩ rfl)).trans ?_
    dsimp only
    rw [soutA_0, soutA_1, soutA_2]
  | n + 1, hn => by
    have hN : cfg0.N = 16 := N_0
    have k := scratch_kept m c ⟨n + 1, hn⟩ (by show ¬(n + 1) % 16 = 0; omega)
    simp only [Nat.add_sub_cancel] at k
    exact k.trans (scratch_at n _)

/-- What a point leaves in its block of the smoothed masks: the smoothing of the block of masks it has read. -/
theorem rsm_block (t : Fin cfg0.N) : (outsAt0 m c t.val t.isLt).1 = onBlk rsmAt (iblk m c 0 t) := by
  by_cases h : t.val % 16 = 0
  · rw [outsAt0_A m c t h]
    dsimp only
    rw [outA_rsm (hA := band_4) (hB := band_5)]
  · have k := scratch_at m c (t.val - 1) (Nat.lt_of_le_of_lt (Nat.sub_le _ _) t.isLt)
    rw [outsAt0_B m c t h]
    dsimp only
    rw [k, outB_rsm (hA := band_4) (hB := band_5)]

/-- What a point leaves in its block of the labels. -/
theorem pfm_block (t : Fin cfg0.N) : (outsAt0 m c t.val t.isLt).2.1 = onBlk pfmAt (iblk m c 0 t) := by
  by_cases h : t.val % 16 = 0
  · rw [outsAt0_A m c t h]
    dsimp only
    rw [outA_pfm (hC := band_6)]
  · have k := scratch_at m c (t.val - 1) (Nat.lt_of_le_of_lt (Nat.sub_le _ _) t.isLt)
    rw [outsAt0_B m c t h]
    dsimp only
    rw [k, outB_pfm (hC := band_6)]

end Cert.Proof

end
-- ==== Proof.Final.lean ====
/- What the kernel leaves in its two result arrays: image `b` of the masks smoothed, and labelled. Point `t` reads images `2t` and `2t+1` and writes
   the two images of each result at the same places; every block is written back. -/
module

public import proofs.«01_k».proof.Proof.Scratch
public import Idealize.ShloMosaic.Lib.Pipeline.ValueKit.Geometry
public import Idealize.ShloMosaic.Lib.Pipeline.ValueKit.Point
public import Idealize.ShloMosaic.Lib.Claim

@[expose] public section

set_option maxRecDepth 16384

noncomputable section

namespace Cert.Proof

open Cert.KernelIdeal Cert.KernelIdeal.Gen
open Idealize.ShloMosaic Idealize.ShloMosaic.TcCoe

/-- A function of one image over all of the masks, the images under one axis more. -/
def onAll {α : Type} (f : (Fin 768 → Fin 768 → EReal) → Fin 768 → Fin 768 → α) (X : S32x768x768.Idx → EReal) (y : S32x768x768.Idx) : α :=
  f (fun i k => X (ix3 (y 0) i k)) (y 1) (y 2)

variable (m : (ℓ : Loc nD τ sig) → Buf (Elt Ideal) ℓ) (c : Dev nD)

/-- The three windows' blocks of point `t` start at image `2t`. -/
theorem starts : ∀ t : Fin cfg0.N, win0_0.index t = ![t.val, 0, 0] ∧ win0_1.index t = ![t.val, 0, 0] ∧ win0_2.index t = ![t.val, 0, 0] :=
  (by decide +kernel : ∀ t : Fin grid0.N, _)

/-- An entry of the block that point `t` reads: image `b` of the block is image `2t + b`. -/
theorem iblk_at (t : Fin cfg0.N) (b : Fin 2) (i k : Fin 768) (B : Fin 32) (hB : B.val = t.val * 2 + b.val) :
    (iblk m c 0 t : S2x768x768.Idx → EReal) (ix3 b i k) = (V m c main_v0 : S32x768x768.Idx → EReal) (ix3 B i k) := by
  blk_ext [iblk, (starts t).1]

/-- A function of one image on point `t`'s block, against the same function over all of the masks. -/
theorem onBlk_iblk {α : Type} (f : (Fin 768 → Fin 768 → EReal) → Fin 768 → Fin 768 → α) (t : Fin cfg0.N) (y : S2x768x768.Idx) (e : S32x768x768.Idx)
    (h0 : (e 0).val = t.val * 2 + (y 0).val) (h1 : (e 1).val = (y 1).val) (h2 : (e 2).val = (y 2).val) :
    onBlk f (iblk m c 0 t) y = onAll f (V m c main_v0) e := by
  unfold onBlk onAll
  rw [show e 1 = (y 1 : Fin 768) from Fin.ext h1, show e 2 = (y 2 : Fin 768) from Fin.ext h2]
  exact congrArg (fun X => f X (y 1) (y 2)) (funext fun i => funext fun k => iblk_at m c t (y 0) i k (e 0) h0)

theorem rsm_array : (dats m 0 c).arrAt 1 cfg0.N = onAll rsmAt (V m c main_v0) := by
  refine (dats m 0 c).arrAt_eq_of_covers 1 _ (by decide +kernel) fun t hf y => ?_
  blk_simp
  rw [after0_1, rsm_block]
  refine onBlk_iblk m c rsmAt t y _ ?_ ?_ ?_ <;> blk_simp [(starts t).2.1]

theorem pfm_array : (dats m 0 c).arrAt 2 cfg0.N = onAll pfmAt (V m c main_v0) := by
  refine (dats m 0 c).arrAt_eq_of_covers 2 _ (by decide +kernel) fun t hf y => ?_
  blk_simp
  rw [after0_2, pfm_block]
  refine onBlk_iblk m c pfmAt t y _ ?_ ?_ ?_ <;> blk_simp [(starts t).2.2]

/-- The masks that the kernel reads are the argument, its axis of extent one dropped. -/
theorem entry : V m c main_v0 = shapeCast S32x768x768 (α := EReal) (s := S32x1x768x768) (m ((c : Thread nD τ).loc main_arg0)) shapeCasts_S32x1x768x768_S32x768x768 := by
  rw [V, V0, hostOps0, List.flatten_cons, List.flatten_nil, List.append_nil]
  after_results
  rfl

theorem entry_at (b : Fin 32) (i k : Fin 768) :
    (V m c main_v0 : S32x768x768.Idx → EReal) (ix3 b i k) = (m ((c : Thread nD τ).loc main_arg0) : S32x1x768x768.Idx → EReal) (ix4 b 0 i k) := by
  rw [entry]
  pointwise

/-- A function of one image over the argument, which has an axis of extent one. -/
def onArg {α : Type} (f : (Fin 768 → Fin 768 → EReal) → Fin 768 → Fin 768 → α) (X : S32x1x768x768.Idx → EReal) (b : Fin 32) (r k : Fin 768) : α :=
  f (fun i k => X (ix4 b 0 i k)) r k

theorem onAll_entry {α : Type} (f : (Fin 768 → Fin 768 → EReal) → Fin 768 → Fin 768 → α) (b : Fin 32) (r k : Fin 768) :
    onAll f (V m c main_v0) (ix3 b r k) = onArg f (m ((c : Thread nD τ).loc main_arg0)) b r k :=
  congrArg (fun X => f X r k) (funext fun i => funext fun k => entry_at m c b i k)

/-- The line after the kernel gives the smoothed masks their axis of extent one. -/
theorem tail : Pipeline.afterTail₀ cfgs (dats m) 0 (V0 m) [hostOps1] c main_v2
    = shapeCast S32x1x768x768 (α := EReal) (s := S32x768x768) ((dats m 0 c).arrAt 1 cfg0.N) shapeCasts_S32x768x768_S32x1x768x768 := by
  unfold Pipeline.afterTail₀
  rw [hostOps1, List.flatten_cons, List.flatten_nil, List.append_nil]
  after_results
  exact congrArg (fun A : S32x768x768.Idx → EReal => shapeCast S32x1x768x768 A shapeCasts_S32x768x768_S32x1x768x768)
    (Pipeline.withArrays_arr spec0 (by decide) c (V0 m c) (fun w => (dats m 0 c).arrAt w cfg0.N) 1)

/-- The first result at an index. -/
theorem tail_at (b : Fin 32) (z : Fin 1) (r k : Fin 768) :
    (Pipeline.afterTail₀ cfgs (dats m) 0 (V0 m) [hostOps1] c main_v2 : S32x1x768x768.Idx → EReal) (ix4 b z r k)
      = onArg rsmAt (m ((c : Thread nD τ).loc main_arg0)) b r k := by
  rw [tail, rsm_array, ← onAll_entry]
  pointwise

/-- The second result at an index. -/
theorem labels_at (b : Fin 32) (r k : Fin 768) :
    ((dats m 0 c).arrAt 2 cfg0.N : S32x768x768.Idx → BitVec 32) (ix3 b r k) = onArg pfmAt (m ((c : Thread nD τ).loc main_arg0)) b r k := by
  rw [pfm_array, ← onAll_entry]

end Cert.Proof

end
-- ==== Proof.Window.lean ====
/- A window reduction along one axis of the masks, read at an index: the fold over the window's offsets, an offset off the axis
   counting the initial value. Two such in a row, one per axis, are what the reference does; at sums that is the sum over the
   square window, at maxima it is above a bound exactly when the mask is somewhere in the square. -/
module

public import Idealize.ShloMosaic.Lib.Pointwise
public import proofs.«01_k».proof.Proof.Band

@[expose] public section

noncomputable section

namespace Cert.Proof

open Idealize.ShloMosaic

/-- The shape of the masks. -/
abbrev Masks : Shape := ⟨4, ![32, 1, 768, 768]⟩

/-- A fold over as many positions, counted otherwise. -/
theorem foldl_cast {M n : ℕ} {β : Type} (h : M = n) (F : β → Fin M → β) (G : β → Fin n → β) (hFG : ∀ s k, F s k = G s (k.cast h)) (v : β) :
    (List.finRange M).foldl F v = (List.finRange n).foldl G v := by
  subst h
  exact congrArg (fun F => (List.finRange M).foldl F v) (funext fun s => funext fun k => hFG s k)

/-- The entry of the padded masks at a place `p`: an entry of the masks, or the value `v` of the padding. -/
theorem padded_at {α : Type} (x : Masks.Idx → α) (v : α) (lo p : Fin 4 → ℕ) (b : Fin 32) (z : Fin 1) (w2 w3 q2 q3 : ℕ)
    (hlo : lo = ![0, 0, w2, w3]) (hp : p = ![b.val, z.val, q2, q3]) {_ : Decidable (∀ a, lo a ≤ p a ∧ p a - lo a < Masks.size a)} :
    (if hin : ∀ a, lo a ≤ p a ∧ p a - lo a < Masks.size a then x (fun a => ⟨p a - lo a, (hin a).2⟩) else v)
      = if h : (w2 ≤ q2 ∧ q2 - w2 < 768) ∧ (w3 ≤ q3 ∧ q3 - w3 < 768) then x (ix4 b z ⟨q2 - w2, h.1.2⟩ ⟨q3 - w3, h.2.2⟩) else v := by
  subst hlo hp
  have hb := b.isLt
  have hz := z.isLt
  by_cases h : (w2 ≤ q2 ∧ q2 - w2 < 768) ∧ (w3 ≤ q3 ∧ q3 - w3 < 768)
  · have hin : ∀ a : Fin 4, (![0, 0, w2, w3] : Fin 4 → ℕ) a ≤ (![b.val, z.val, q2, q3] : Fin 4 → ℕ) a
        ∧ (![b.val, z.val, q2, q3] : Fin 4 → ℕ) a - (![0, 0, w2, w3] : Fin 4 → ℕ) a < Masks.size a := fun a => by
      match a with
      | ⟨0, _⟩ => exact ⟨Nat.zero_le _, hb⟩
      | ⟨1, _⟩ => exact ⟨Nat.zero_le _, hz⟩
      | ⟨2, _⟩ => exact h.1
      | ⟨3, _⟩ => exact h.2
    rw [dif_pos hin, dif_pos h]
    refine congrArg x (funext fun a => Fin.ext ?_)
    match a with
    | ⟨0, _⟩ => rfl
    | ⟨1, _⟩ => rfl
    | ⟨2, _⟩ => rfl
    | ⟨3, _⟩ => rfl
  · rw [dif_neg h, dif_neg fun hin => h ⟨hin 2, hin 3⟩]

/-- A fold along the rows. -/
theorem window_rows {α : Type} {u : Shape} (f : α → α → α) (n w : ℕ) (x : Masks.Idx → α) (init : u.Idx → α) (h) (hu) (b : Fin 32) (z : Fin 1) (r c : Fin 768) :
    Host.reduceWindow (s := Masks) (t := Masks) f ![1, 1, n, 1] ![1, 1, 1, 1] ![0, 0, w, 0] ![0, 0, w, 0] x init h hu (ix4 b z r c)
      = (List.finRange n).foldl (fun s d => f s (if h : w ≤ r.val + d.val ∧ r.val + d.val - w < 768 then x (ix4 b z ⟨r.val + d.val - w, h.2⟩ c) else init (Shape.Idx.first hu)))
          (init (Shape.Idx.first hu)) := by
  unfold Host.reduceWindow
  have hn : (⟨4, ![1, 1, n, 1]⟩ : Shape).numel = n := by simp [Shape.numel, Fin.prod_univ_four]
  have hs : ∀ k, (⟨4, ![1, 1, n, 1]⟩ : Shape).rowMajor.symm k = ix4 (0 : Fin 1) (0 : Fin 1) (k.cast hn) (0 : Fin 1) := fun k =>
    ((⟨4, ![1, 1, n, 1]⟩ : Shape).rowMajor.symm_apply_eq).2 (Fin.ext (by
      rw [Shape.rowMajor_val_four]
      show k.val = _
      simp))
  refine foldl_cast hn _ _ (fun s k => ?_) _
  dsimp only
  refine congrArg (f s) ?_
  refine (padded_at x _ _ _ b z w 0 (r.val + k.val) c.val rfl ?_).trans ?_
  · rw [hs]
    funext a
    match a with
    | ⟨0, _⟩ => simp
    | ⟨1, _⟩ => simp
    | ⟨2, _⟩ => simp
    | ⟨3, _⟩ => simp
  · simp [c.isLt]

/-- A fold along the columns. -/
theorem window_cols {α : Type} {u : Shape} (f : α → α → α) (n w : ℕ) (x : Masks.Idx → α) (init : u.Idx → α) (h) (hu) (b : Fin 32) (z : Fin 1) (r c : Fin 768) :
    Host.reduceWindow (s := Masks) (t := Masks) f ![1, 1, 1, n] ![1, 1, 1, 1] ![0, 0, 0, w] ![0, 0, 0, w] x init h hu (ix4 b z r c)
      = (List.finRange n).foldl (fun s d => f s (if h : w ≤ c.val + d.val ∧ c.val + d.val - w < 768 then x (ix4 b z r ⟨c.val + d.val - w, h.2⟩) else init (Shape.Idx.first hu)))
          (init (Shape.Idx.first hu)) := by
  unfold Host.reduceWindow
  have hn : (⟨4, ![1, 1, 1, n]⟩ : Shape).numel = n := by simp [Shape.numel, Fin.prod_univ_four]
  have hs : ∀ k, (⟨4, ![1, 1, 1, n]⟩ : Shape).rowMajor.symm k = ix4 (0 : Fin 1) (0 : Fin 1) (0 : Fin 1) (k.cast hn) := fun k =>
    ((⟨4, ![1, 1, 1, n]⟩ : Shape).rowMajor.symm_apply_eq).2 (Fin.ext (by
      rw [Shape.rowMajor_val_four]
      show k.val = _
      simp))
  refine foldl_cast hn _ _ (fun s k => ?_) _
  dsimp only
  refine congrArg (f s) ?_
  refine (padded_at x _ _ _ b z 0 w r.val (c.val + k.val) rfl ?_).trans ?_
  · rw [hs]
    funext a
    match a with
    | ⟨0, _⟩ => simp
    | ⟨1, _⟩ => simp
    | ⟨2, _⟩ => simp
    | ⟨3, _⟩ => simp
  · simp [r.isLt]

/-- A sum over a window's offsets is the sum over the entries that the window reaches. -/
theorem foldl_box (w : ℕ) (r : Fin 768) (g : Fin 768 → EReal) (n : ℕ) (hn : n = 2 * w + 1) (v : EReal) (hv : v = 0) :
    (List.finRange n).foldl (fun s d => s + (if h : w ≤ r.val + d.val ∧ r.val + d.val - w < 768 then g ⟨r.val + d.val - w, h.2⟩ else v)) v = box w r g := by
  subst hv
  rw [foldl_add, zero_add, ← Fin.sum_univ_def, box_of_offsets w r g n hn]

/-- A maximum over a window's offsets is above a bound exactly when an entry that the window reaches is. -/
theorem lt_foldl_window (w : ℕ) (r : Fin 768) (g : Fin 768 → EReal) (n : ℕ) (hn : n = 2 * w + 1) (v t : EReal) (hv : ¬t < v) :
    t < (List.finRange n).foldl (fun s d => max s (if h : w ≤ r.val + d.val ∧ r.val + d.val - w < 768 then g ⟨r.val + d.val - w, h.2⟩ else v)) v
      ↔ ∃ i, Near w r i ∧ t < g i := by
  subst hn
  rw [lt_foldl_max, or_iff_right hv]
  constructor
  · rintro ⟨d, -, hd⟩
    have hdl := d.isLt
    split at hd
    · next h => exact ⟨_, ⟨by show r.val ≤ r.val + d.val - w + w; omega, by show r.val + d.val - w ≤ r.val + w; omega⟩, hd⟩
    · exact absurd hd hv
  · rintro ⟨i, ⟨h1, h2⟩, hi⟩
    have hil := i.isLt
    refine ⟨⟨i.val + w - r.val, by omega⟩, List.mem_finRange _, ?_⟩
    rw [dif_pos (show w ≤ r.val + (i.val + w - r.val) ∧ r.val + (i.val + w - r.val) - w < 768 by omega)]
    refine lt_of_lt_of_eq hi (congrArg g (Fin.ext ?_))
    show i.val = r.val + (i.val + w - r.val) - w
    omega

end Cert.Proof

end
-- ==== Proof.Reference.lean ====
/- What the reference computes at a pixel: its sums over windows are the box sums, and on masks whose values are zero or
   above one half its window maxima exceed one half exactly when the kernel's box sums of marks do. -/
module

public import proofs.«01_k».proof.Pre_zero_or_lesion
public import proofs.«01_k».proof.On_smoothed_and_lesions
public import proofs.«01_k».proof.Proof.Gen.ReferenceIdeal
public import proofs.«01_k».proof.Proof.Final
public import proofs.«01_k».proof.Proof.Window

@[expose] public section

set_option maxRecDepth 16384

noncomputable section

namespace Cert.Proof

open Cert.ReferenceIdeal Cert.ReferenceIdeal.Gen
open Idealize.ShloMosaic

theorem zero_lit : Ideal.ofBits .f32 0x00000000#32 = 0 := by
  simp [Ideal.ofBits, Ideal.ieee]

theorem half_eq : half = ((1 / 2 : ℝ) : EReal) := by
  simp [half, Ideal.ofBits, Ideal.ieee, -EReal.coe_mul]; norm_num

theorem half_nonneg : 0 ≤ half := by
  rw [half_eq]; exact_mod_cast (by norm_num : (0 : ℝ) ≤ 1 / 2)

theorem half_lt_one : half < 1 := by
  rw [half_eq]; exact_mod_cast (by norm_num : (1 / 2 : ℝ) < 1)

/-- The maximum's initial value is not above one half. -/
theorem bottom_lit : ¬half < Ideal.ofBits .f32 0xFF800000#32 := by
  rw [show Ideal.ofBits .f32 0xFF800000#32 = ⊥ by simp [Ideal.ofBits, Ideal.ieee]]
  exact not_lt_bot

/-- The sums over windows of rows. -/
def rowSums (x : S32x1x768x768.Idx → EReal) : S32x1x768x768.Idx → EReal :=
  Host.reduceWindowAdd (F := Ideal) (φ := .f32) ![1, 1, 35, 1] ![1, 1, 1, 1] ![0, 0, 17, 0] ![0, 0, 17, 0] x (broadcastInDim S_ ![] bcast_S_S_ (constant S_ .f32 0x00000000#32))
    reduceWindows_S32x1x768x768_S32x1x768x768_w1s1p0_0_w1s1p0_0_w35s1p17_17_w1s1p0_0 h_S_

/-- The sums over windows of columns. -/
def colSums (x : S32x1x768x768.Idx → EReal) : S32x1x768x768.Idx → EReal :=
  Host.reduceWindowAdd (F := Ideal) (φ := .f32) ![1, 1, 1, 35] ![1, 1, 1, 1] ![0, 0, 0, 17] ![0, 0, 0, 17] x (broadcastInDim S_ ![] bcast_S_S_ (constant S_ .f32 0x00000000#32))
    reduceWindows_S32x1x768x768_S32x1x768x768_w1s1p0_0_w1s1p0_0_w1s1p0_0_w35s1p17_17 h_S_

theorem rowSums_at (x : S32x1x768x768.Idx → EReal) (b : Fin 32) (z : Fin 1) (r c : Fin 768) :
    rowSums x (ix4 b z r c) = box 17 r fun i => x (ix4 b z i c) :=
  (window_rows (fun s y : EReal => s + y) 35 17 x (fun _ => Ideal.ofBits .f32 0x00000000#32)
    reduceWindows_S32x1x768x768_S32x1x768x768_w1s1p0_0_w1s1p0_0_w35s1p17_17_w1s1p0_0 h_S_ b z r c).trans
    (foldl_box 17 r (fun i => x (ix4 b z i c)) 35 rfl _ zero_lit)

theorem colSums_at (x : S32x1x768x768.Idx → EReal) (b : Fin 32) (z : Fin 1) (r c : Fin 768) :
    colSums x (ix4 b z r c) = box 17 c fun k => x (ix4 b z r k) :=
  (window_cols (fun s y : EReal => s + y) 35 17 x (fun _ => Ideal.ofBits .f32 0x00000000#32)
    reduceWindows_S32x1x768x768_S32x1x768x768_w1s1p0_0_w1s1p0_0_w1s1p0_0_w35s1p17_17 h_S_ b z r c).trans
    (foldl_box 17 c (fun k => x (ix4 b z r k)) 35 rfl _ zero_lit)

/-- The reference's first result. -/
def refSums (x : S32x1x768x768.Idx → EReal) : S32x1x768x768.Idx → EReal :=
  mulf (F := Ideal) (φ := .f32) (colSums (rowSums x)) (broadcastInDim S32x1x768x768 ![] bcast_S_S32x1x768x768 (constant S_ .f32 0x3A55FEBF#32))

theorem refSums_at (x : S32x1x768x768.Idx → EReal) (b : Fin 32) (z : Fin 1) (r c : Fin 768) :
    refSums x (ix4 b z r c) = onArg rsmAt x b r c := by
  obtain rfl : z = 0 := Subsingleton.elim _ _
  have e : refSums x (ix4 b 0 r c) = colSums (rowSums x) (ix4 b 0 r c) * scale := rfl
  rw [e, colSums_at]
  simp only [rowSums_at]
  rfl

/-- The largest values over windows of rows. -/
def rowMax (x : S32x1x768x768.Idx → EReal) : S32x1x768x768.Idx → EReal :=
  Host.reduceWindow (α := EReal) (FloatOps.maximumf (F := Ideal) (φ := .f32)) ![1, 1, 31, 1] ![1, 1, 1, 1] ![0, 0, 15, 0] ![0, 0, 15, 0] x
    (broadcastInDim S_ ![] bcast_S_S_ (constant (F := Ideal) S_ .f32 0xFF800000#32 : FVec Ideal S_ .f32))
    reduceWindows_S32x1x768x768_S32x1x768x768_w1s1p0_0_w1s1p0_0_w31s1p15_15_w1s1p0_0 h_S_

/-- The largest values over windows of columns. -/
def colMax (x : S32x1x768x768.Idx → EReal) : S32x1x768x768.Idx → EReal :=
  Host.reduceWindow (α := EReal) (FloatOps.maximumf (F := Ideal) (φ := .f32)) ![1, 1, 1, 31] ![1, 1, 1, 1] ![0, 0, 0, 15] ![0, 0, 0, 15] x
    (broadcastInDim S_ ![] bcast_S_S_ (constant (F := Ideal) S_ .f32 0xFF800000#32 : FVec Ideal S_ .f32))
    reduceWindows_S32x1x768x768_S32x1x768x768_w1s1p0_0_w1s1p0_0_w1s1p0_0_w31s1p15_15 h_S_

theorem lt_rowMax (x : S32x1x768x768.Idx → EReal) (b : Fin 32) (z : Fin 1) (r c : Fin 768) :
    half < rowMax x (ix4 b z r c) ↔ ∃ i, Near 15 r i ∧ half < x (ix4 b z i c) :=
  (iff_of_eq (congrArg (half < ·) (window_rows (fun s y : EReal => max s y) 31 15 x (fun _ => Ideal.ofBits .f32 0xFF800000#32)
    reduceWindows_S32x1x768x768_S32x1x768x768_w1s1p0_0_w1s1p0_0_w31s1p15_15_w1s1p0_0 h_S_ b z r c))).trans
    (lt_foldl_window 15 r (fun i => x (ix4 b z i c)) 31 rfl _ half bottom_lit)

theorem lt_colMax (x : S32x1x768x768.Idx → EReal) (b : Fin 32) (z : Fin 1) (r c : Fin 768) :
    half < colMax x (ix4 b z r c) ↔ ∃ k, Near 15 c k ∧ half < x (ix4 b z r k) :=
  (iff_of_eq (congrArg (half < ·) (window_cols (fun s y : EReal => max s y) 31 15 x (fun _ => Ideal.ofBits .f32 0xFF800000#32)
    reduceWindows_S32x1x768x768_S32x1x768x768_w1s1p0_0_w1s1p0_0_w1s1p0_0_w31s1p15_15 h_S_ b z r c))).trans
    (lt_foldl_window 15 c (fun k => x (ix4 b z r k)) 31 rfl _ half bottom_lit)

/-- The reference's dilation: the largest value of the window, rows first. -/
abbrev refDilated (x : S32x1x768x768.Idx → EReal) : S32x1x768x768.Idx → EReal := colMax (rowMax x)

/-- The dilation is above one half exactly when a pixel of the window is. -/
theorem lt_refDilated (x : S32x1x768x768.Idx → EReal) (b : Fin 32) (r c : Fin 768) :
    half < refDilated x (ix4 b 0 r c) ↔ ∃ k, Near 15 c k ∧ ∃ i, Near 15 r i ∧ half < x (ix4 b 0 i k) := by
  simp only [refDilated, lt_colMax, lt_rowMax]

/-- On an image of zeros and lesions, the two box sums find what the dilation finds. -/
theorem lt_marks (X : Fin 768 → Fin 768 → EReal) (hX : ∀ i k, X i k = 0 ∨ half < X i k) (r c : Fin 768) :
    half < box 15 c (colMark X r) ↔ ∃ k, Near 15 c k ∧ ∃ i, Near 15 r i ∧ half < X i k := by
  have mark : ∀ k, half < colMark X r k ↔ half < box 15 r (fun i => X i k) := fun k => by
    unfold colMark
    split
    · next h => exact iff_of_true half_lt_one h
    · next h => exact iff_of_false (not_lt.mpr half_nonneg) h
  rw [lt_box_iff 15 c (colMark X r) half half_nonneg fun k => by
    unfold colMark; split
    · exact Or.inr half_lt_one
    · exact Or.inl rfl]
  exact exists_congr fun k => and_congr_right fun _ =>
    (mark k).trans (lt_box_iff 15 r (fun i => X i k) half half_nonneg fun i => hX i k)

/-- A truth value as one bit. -/
theorem ofBool_one (p : Prop) [Decidable p] : BitVec.ofBool (decide p) = 1#1 ↔ p := by
  by_cases h : p <;> simp [h]

/-- The reference's second result. -/
def refLabels (x : S32x1x768x768.Idx → EReal) : S32x768x768.Idx → BitVec 32 :=
  shapeCast _ (id (select (cmpf (F := Ideal) (φ := .f32) .ogt x (broadcastInDim S32x1x768x768 ![] bcast_S_S32x1x768x768 (constant S_ .f32 0x3F000000#32)))
      (broadcastInDim S32x1x768x768 ![] bcast_S_S32x1x768x768 (constantI S_ 32 1#32))
      (select (cmpf (F := Ideal) (φ := .f32) .ogt (refDilated x) (broadcastInDim S32x1x768x768 ![] bcast_S_S32x1x768x768 (constant S_ .f32 0x3F000000#32)))
        (broadcastInDim S32x1x768x768 ![] bcast_S_S32x1x768x768 (constantI S_ 32 0#32))
        (broadcastInDim S32x1x768x768 ![] bcast_S_S32x1x768x768 (constantI S_ 32 2#32))))) shapeCasts_S32x1x768x768_S32x768x768

theorem refLabels_read (x : S32x1x768x768.Idx → EReal) (b : Fin 32) (r c : Fin 768) :
    refLabels x (ix3 b r c) = if half < x (ix4 b 0 r c) then 1#32 else if half < refDilated x (ix4 b 0 r c) then 0#32 else 2#32 := by
  pointwise [refLabels]
  show (if BitVec.ofBool (decide (half < x (ix4 b 0 r c))) = 1#1 then 1#32
    else if BitVec.ofBool (decide (half < refDilated x (ix4 b 0 r c))) = 1#1 then 0#32 else 2#32) = _
  simp only [ofBool_one]

theorem refLabels_at (x : S32x1x768x768.Idx → EReal) (hx : ∀ j, x j = 0 ∨ half < x j) (b : Fin 32) (r c : Fin 768) :
    refLabels x (ix3 b r c) = onArg pfmAt x b r c := by
  have e := lt_marks (fun i k => x (ix4 b 0 i k)) (fun i k => hx _) r c
  rw [← lt_refDilated x b r c] at e
  rw [refLabels_read]
  unfold onArg pfmAt
  simp only [e]

/-- On a lesion both labels are 1, whatever the other pixels hold. -/
theorem refLabels_lesion (x : S32x1x768x768.Idx → EReal) (b : Fin 32) (r c : Fin 768) (h : half < x (ix4 b 0 r c)) :
    refLabels x (ix3 b r c) = onArg pfmAt x b r c := by
  rw [refLabels_read, if_pos h]
  exact (if_pos h).symm

/-- What the precondition says of each value of the masks. -/
theorem of_pre [h : Cert.Pre_zero_or_lesion.Facts] (x : S32x1x768x768.Idx → EReal)
    (hp : Cert.Pre_zero_or_lesion.fn (F := Ideal) x = fun _ => 1#1) (j : S32x1x768x768.Idx) : x j = 0 ∨ half < x j := by
  have e : IntOp.ori (BitVec.ofBool (decide (x j = Ideal.ofBits .f32 0x00000000#32))) (BitVec.ofBool (decide (half < x j))) = 1#1 := congrFun hp j
  rw [zero_lit] at e
  by_cases h0 : x j = 0
  · exact Or.inl h0
  · by_cases h1 : half < x j
    · exact Or.inr h1
    · simp [h0, h1, IntOp.ori] at e

/-- The mask of the claim without a precondition selects, of the labels, the pixels of a lesion. -/
theorem of_on [h : Cert.On_smoothed_and_lesions.Facts] (x : S32x1x768x768.Idx → EReal) (b : Fin 32) (r c : Fin 768)
    (ho : (Cert.On_smoothed_and_lesions.fn (F := Ideal) x).2 (ix3 b r c) = 1#1) : half < x (ix4 b 0 r c) := by
  have e : (Cert.On_smoothed_and_lesions.fn (F := Ideal) x).2 (ix3 b r c) = BitVec.ofBool (decide (half < x (ix4 b 0 r c))) := by
    unfold Cert.On_smoothed_and_lesions.fn
    pointwise
  exact (ofBool_one _).mp (e.symm.trans ho)

end Cert.Proof

end
-- ==== Proof.lean ====
/- The certificate: each program's frame, and the equation of the idealized kernel and the idealized reference. What the
   kernel leaves is read at an index in `Final`, what the reference computes in `Reference`; both are the box sum and the
   label of a pixel as `Image` states them. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem

/-- The precondition's one side condition. -/
theorem preFacts : Cert.Pre_zero_or_lesion.Facts where
  bcast_S_S32x1x768x768 := by decide

/-- The side conditions of the mask of the claim without a precondition. -/
theorem onFacts : Cert.On_smoothed_and_lesions.Facts where
  bcast_S_S32x1x768x768 := by decide
  shapeCasts_S32x1x768x768_S32x768x768 := Cert.ReferenceIdeal.Gen.shapeCasts_S32x1x768x768_S32x768x768
  bcast_S_S32x768x768 := by decide

/-- The reference declares no semaphore, so a state's counters are zero whatever they are. -/
theorem no_counters (f : GSem Cert.ReferenceIdeal.nD Cert.ReferenceIdeal.τ Cert.ReferenceIdeal.sig → ℤ) : f = fun _ => 0 :=
  funext fun g => match g with
    | ⟨_, .reg s⟩ => s.elim0
    | ⟨_, .dma s⟩ => s.elim0

/-- The reference's run leaves its argument as it was and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0 :=
  θ_run_mono (Cert.ReferenceIdeal.Value.run m g) fun r h => ⟨fun c => (h c).2.2, no_counters r.2.sem⟩

section Equation

open Cert.KernelIdeal Cert.KernelIdeal.Gen Idealize.ShloMosaic.TcCoe

variable (m : (ℓ : Loc nD τ sig) → Buf (Elt Ideal) ℓ) (c : Dev nD)

/-- The smoothed masks: the reference's array is what the kernel's program leaves. -/
theorem sums_eq : refSums (m ((c : Thread nD τ).loc main_arg0))
    = (Pipeline.afterTail₀ cfgs (dats m) 0 (V0 m) [hostOps1] c main_v2 : S32x1x768x768.Idx → EReal) := by
  funext j
  idx_vars j
  exact (refSums_at _ _ _ _ _).trans (tail_at m c _ _ _ _).symm

/-- The labels: on masks of zeros and lesions, the reference's array is what the kernel leaves. -/
theorem labels_eq (x : S32x1x768x768.Idx → EReal) (e : m ((c : Thread nD τ).loc main_arg0) = x) (hx : ∀ j, x j = 0 ∨ half < x j) :
    refLabels x = ((dats m 0 c).arrAt 2 cfg0.N : S32x768x768.Idx → BitVec 32) := by
  subst e
  funext j
  idx_vars j
  exact (refLabels_at _ hx _ _ _).trans (labels_at m c _ _ _).symm

/-- On a lesion the two labels agree, whatever the masks hold elsewhere. -/
theorem lesion_eq [Cert.On_smoothed_and_lesions.Facts] (x : S32x1x768x768.Idx → EReal) (e : m ((c : Thread nD τ).loc main_arg0) = x)
    (i : S32x768x768.Idx) (ho : (Cert.On_smoothed_and_lesions.fn (F := Ideal) x).2 i = 1#1) :
    refLabels x i = ((dats m 0 c).arrAt 2 cfg0.N : S32x768x768.Idx → BitVec 32) i := by
  subst e
  idx_vars i
  exact (refLabels_lesion _ _ _ _ (of_on _ _ _ _ ho)).trans (labels_at m c _ _ _).symm

/-- The kernel's run: the smoothed masks are the reference's; the labels are what the region leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v2) = refSums (m ((c.tc : Thread nD τ).loc main_arg0))
      ∧ r.2.mem ((c.tc : Thread nD τ).loc main_v1_1) = (dats m 0 c).arrAt 2 cfg0.N
      ∧ r.2.mem ((c.tc : Thread nD τ).loc main_arg0) = m ((c.tc : Thread nD τ).loc main_arg0) := by
  run_from run_main m g & unchanged m g
  exact (sums_eq m c).symm

end Equation

section ReferenceRun

open Cert.ReferenceIdeal

/-- The reference's run: its two arrays, and its argument unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = refSums (m ((c.tc : Thread nD τ).loc main_arg0))
      ∧ r.2.mem ((c.tc : Thread nD τ).loc main_v17) = refLabels (m ((c.tc : Thread nD τ).loc main_arg0))
      ∧ r.2.mem ((c.tc : Thread nD τ).loc main_arg0) = m ((c.tc : Thread nD τ).loc main_arg0) :=
  Cert.ReferenceIdeal.Value.run m g

end ReferenceRun

theorem claim : Cert.Claim := by
  refine ⟨Cert.Kernel.Gen.facts, Cert.KernelIdeal.Gen.facts, Cert.ReferenceIdeal.Gen.facts, preFacts, onFacts,
    fun m g _ => Cert.Kernel.Gen.frame m g, fun m g _ => Cert.KernelIdeal.Gen.frame m g, fun m g _ => Cert.KernelIdeal.Gen.frame m g,
    fun m g _ => reference_frame m g, fun m g _ => reference_frame m g, trivial, ?_, ?_⟩
  · letI := preFacts
    intro m g m' g' hpre hagree
    refine ⟨_, _, kernel_run m g, θ_run_mono (reference_run m' g') fun r h c => ?_⟩
    obtain ⟨h0, h1, ha⟩ := h c
    rw [hagree c] at h0 h1
    exact ⟨h0, h1.trans (labels_eq m c _ rfl (of_pre _ (hpre c))), ha⟩
  · letI := onFacts
    intro m g m' g' _ hagree
    refine ⟨_, _, θ_run_mono (kernel_run m g) fun r h c => ⟨fun i _ => congrFun (h c).1 i, fun i _ => congrFun (h c).2.1 i, (h c).2.2⟩,
      θ_run_mono (reference_run m' g') fun r h c => ?_⟩
    obtain ⟨h0, h1, ha⟩ := h c
    rw [hagree c] at h0 h1
    exact ⟨fun i _ => congrFun h0 i, fun i ho => (congrFun h1 i).trans (lesion_eq m c _ rfl i ho), ha⟩

end Cert.Proof

end
